-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_v145) = v5 c
          ∧ r.2.mem ((c.tc : Thread Cert.ReferenceIdeal.nD Cert.ReferenceIdeal.τ).loc Cert.ReferenceIdeal.main_v146) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x2048 : Shape := ⟨3, ![16, 128, 2048]⟩
abbrev S16x128x2x128 : Shape := ⟨4, ![16, 128, 2, 128]⟩
abbrev S16x2x8064x64 : Shape := ⟨4, ![16, 2, 8064, 64]⟩
abbrev S16x2x252x128 : Shape := ⟨4, ![16, 2, 252, 128]⟩
abbrev S16x2x8064x4 : Shape := ⟨4, ![16, 2, 8064, 4]⟩
abbrev S16x2x128x128 : Shape := ⟨4, ![16, 2, 128, 128]⟩
abbrev S16x256x128 : Shape := ⟨3, ![16, 256, 128]⟩
abbrev S16x2x128x64 : Shape := ⟨4, ![16, 2, 128, 64]⟩
abbrev S16x2x4x128 : Shape := ⟨4, ![16, 2, 4, 128]⟩
abbrev S16x2x128x4 : Shape := ⟨4, ![16, 2, 128, 4]⟩
abbrev S1x128x1024 : Shape := ⟨3, ![1, 128, 1024]⟩
abbrev S1x256x128 : Shape := ⟨3, ![1, 256, 128]⟩
abbrev S1x1x8064x64 : Shape := ⟨4, ![1, 1, 8064, 64]⟩
abbrev S1x1x252x128 : Shape := ⟨4, ![1, 1, 252, 128]⟩
abbrev S1x1x8064x4 : Shape := ⟨4, ![1, 1, 8064, 4]⟩
abbrev S1x1x128x128 : Shape := ⟨4, ![1, 1, 128, 128]⟩
abbrev S1x1x128x64 : Shape := ⟨4, ![1, 1, 128, 64]⟩
abbrev S1x1x4x128 : Shape := ⟨4, ![1, 1, 4, 128]⟩
abbrev S1x1x128x4 : Shape := ⟨4, ![1, 1, 128, 4]⟩
abbrev S256x1024 : Shape := ⟨2, ![256, 1024]⟩
abbrev S252x128 : Shape := ⟨2, ![252, 128]⟩
abbrev S128x128 : Shape := ⟨2, ![128, 128]⟩
abbrev S128x1024 : Shape := ⟨2, ![128, 1024]⟩
abbrev S1024x128 : Shape := ⟨2, ![1024, 128]⟩
abbrev S1x128x128 : Shape := ⟨3, ![1, 128, 128]⟩
abbrev S4x32x128 : Shape := ⟨3, ![4, 32, 128]⟩
abbrev S4x128 : Shape := ⟨2, ![4, 128]⟩
abbrev S4x1x128 : Shape := ⟨3, ![4, 1, 128]⟩
abbrev S128x64 : Shape := ⟨2, ![128, 64]⟩
abbrev S8x128 : Shape := ⟨2, ![8, 128]⟩
abbrev S128x8 : Shape := ⟨2, ![128, 8]⟩
abbrev S128x4 : Shape := ⟨2, ![128, 4]⟩
abbrev S16x8x1024 : Shape := ⟨3, ![16, 8, 1024]⟩
abbrev S8x1024 : Shape := ⟨2, ![8, 1024]⟩
abbrev S32x64 : Shape := ⟨2, ![32, 64]⟩
abbrev S32x128 : Shape := ⟨2, ![32, 128]⟩
abbrev S1x128 : Shape := ⟨2, ![1, 128]⟩
abbrev S1024 : Shape := ⟨1, ![1024]⟩
abbrev S1x1024 : Shape := ⟨2, ![1, 1024]⟩
abbrev S1x1x256x64 : Shape := ⟨4, ![1, 1, 256, 64]⟩
abbrev S256x64 : Shape := ⟨2, ![256, 64]⟩
abbrev S64x64 : Shape := ⟨2, ![64, 64]⟩
abbrev S64x128 : Shape := ⟨2, ![64, 128]⟩
abbrev S256x128 : Shape := ⟨2, ![256, 128]⟩
abbrev S256x256 : Shape := ⟨2, ![256, 256]⟩
abbrev S32x8x1024 : Shape := ⟨3, ![32, 8, 1024]⟩
abbrev S1x1x256x4 : Shape := ⟨4, ![1, 1, 256, 4]⟩
abbrev S256x4 : Shape := ⟨2, ![256, 4]⟩
abbrev S256x1 : Shape := ⟨2, ![256, 1]⟩
abbrev S256x16 : Shape := ⟨2, ![256, 16]⟩
abbrev S128x1 : Shape := ⟨2, ![128, 1]⟩
abbrev S128x16 : Shape := ⟨2, ![128, 16]⟩
abbrev S128x256 : Shape := ⟨2, ![128, 256]⟩
abbrev S128x128x1 : Shape := ⟨3, ![128, 128, 1]⟩

abbrev nBuf : Space → Nat
  | .hbm => 20
  | .vmem => 39
  | .smem => 0
  | _ => 0

abbrev bufTy : (tb : Table) → Fin (tcTables nBuf tb) → BufTy
  | .hbm, ⟨0, _⟩ => ⟨S16x128x2048, .f32⟩
  | .hbm, ⟨1, _⟩ => ⟨S16x128x2x128, .f32⟩
  | .hbm, ⟨2, _⟩ => ⟨S16x128x2x128, .f32⟩
  | .hbm, ⟨3, _⟩ => ⟨S16x2x8064x64, .i8⟩
  | .hbm, ⟨4, _⟩ => ⟨S16x2x252x128, .bf16⟩
  | .hbm, ⟨5, _⟩ => ⟨S16x2x252x128, .bf16⟩
  | .hbm, ⟨6, _⟩ => ⟨S16x2x8064x64, .i8⟩
  | .hbm, ⟨7, _⟩ => ⟨S16x2x8064x4, .bf16⟩
  | .hbm, ⟨8, _⟩ => ⟨S16x2x8064x4, .bf16⟩
  | .hbm, ⟨9, _⟩ => ⟨S16x2x128x128, .bf16⟩
  | .hbm, ⟨10, _⟩ => ⟨S16x2x128x128, .bf16⟩
  | .hbm, ⟨11, _⟩ => ⟨S16x256x128, .f32⟩
  | .hbm, ⟨12, _⟩ => ⟨S16x256x128, .f32⟩
  | .hbm, ⟨13, _⟩ => ⟨S16x128x2048, .f32⟩
  | .hbm, ⟨14, _⟩ => ⟨S16x2x128x64, .i8⟩
  | .hbm, ⟨15, _⟩ => ⟨S16x2x4x128, .bf16⟩
  | .hbm, ⟨16, _⟩ => ⟨S16x2x4x128, .bf16⟩
  | .hbm, ⟨17, _⟩ => ⟨S16x2x128x64, .i8⟩
  | .hbm, ⟨18, _⟩ => ⟨S16x2x128x4, .bf16⟩
  | .hbm, ⟨19, _⟩ => ⟨S16x2x128x4, .bf16⟩
  | .local _ .vmem, ⟨0, _⟩ => ⟨S1x128x1024, .f32⟩
  | .local _ .vmem, ⟨1, _⟩ => ⟨S1x128x1024, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x1x8064x64, .i8⟩
  | .local _ .vmem, ⟨7, _⟩ => ⟨S1x1x8064x64, .i8⟩
  | .local _ .vmem, ⟨8, _⟩ => ⟨S1x1x252x128, .bf16⟩
  | .local _ .vmem, ⟨9, _⟩ => ⟨S1x1x252x128, .bf16⟩
  | .local _ .vmem, ⟨10, _⟩ => ⟨S1x1x252x128, .bf16⟩
  | .local _ .vmem, ⟨11, _⟩ => ⟨S1x1x252x128, .bf16⟩
  | .local _ .vmem, ⟨12, _⟩ => ⟨S1x1x8064x64, .i8⟩
  | .local _ .vmem, ⟨13, _⟩ => ⟨S1x1x8064x64, .i8⟩
  | .local _ .vmem, ⟨14, _⟩ => ⟨S1x1x8064x4, .bf16⟩
  | .local _ .vmem, ⟨15, _⟩ => ⟨S1x1x8064x4, .bf16⟩
  | .local _ .vmem, ⟨16, _⟩ => ⟨S1x1x8064x4, .bf16⟩
  | .local _ .vmem, ⟨17, _⟩ => ⟨S1x1x8064x4, .bf16⟩
  | .local _ .vmem, ⟨18, _⟩ => ⟨S1x1x128x128, .bf16⟩
  | .local _ .vmem, ⟨19, _⟩ => ⟨S1x1x128x128, .bf16⟩
  | .local _ .vmem, ⟨20, _⟩ => ⟨S1x1x128x128, .bf16⟩
  | .local _ .vmem, ⟨21, _⟩ => ⟨S1x1x128x128, .bf16⟩
  | .local _ .vmem, ⟨22, _⟩ => ⟨S1x128x1024, .f32⟩
  | .local _ .vmem, ⟨23, _⟩ => ⟨S1x128x1024, .f32⟩
  | .local _ .vmem, ⟨24, _⟩ => ⟨S1x1x128x64, .i8⟩
  | .local _ .vmem, ⟨25, _⟩ => ⟨S1x1x128x64, .i8⟩
  | .local _ .vmem, ⟨26, _⟩ => ⟨S1x1x4x128, .bf16⟩
  | .local _ .vmem, ⟨27, _⟩ => ⟨S1x1x4x128, .bf16⟩
  | .local _ .vmem, ⟨28, _⟩ => ⟨S1x1x4x128, .bf16⟩
  | .local _ .vmem, ⟨29, _⟩ => ⟨S1x1x4x128, .bf16⟩
  | .local _ .vmem, ⟨30, _⟩ => ⟨S1x1x128x64, .i8⟩
  | .local _ .vmem, ⟨31, _⟩ => ⟨S1x1x128x64, .i8⟩
  | .local _ .vmem, ⟨32, _⟩ => ⟨S1x1x128x4, .bf16⟩
  | .local _ .vmem, ⟨33, _⟩ => ⟨S1x1x128x4, .bf16⟩
  | .local _ .vmem, ⟨34, _⟩ => ⟨S1x1x128x4, .bf16⟩
  | .local _ .vmem, ⟨35, _⟩ => ⟨S1x1x128x4, .bf16⟩
  | .local _ .vmem, ⟨36, _⟩ => ⟨S256x1024, .bf16⟩
  | .local _ .vmem, ⟨37, _⟩ => ⟨S252x128, .f32⟩
  | .local _ .vmem, ⟨38, _⟩ => ⟨S252x128, .f32⟩
  | _, _ => ⟨S16x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v2_5 : Ref sig .tc := ⟨.hbm, 18, rfl⟩
abbrev main_v2_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let c0_24 : Index := 0#32
  let arg1 : BitVec 32 := BitVec.ofNat 32 (i 1).val
  let v60 : Index := Scalar.indexCast arg1
  let c0_25 : Index := 0#32
  ![0, v60.toNat, 0]
@[reducible] def k0_t1_loop : Scf.Loop 32 :=
  let c0_i32 : BitVec 32 := 0#32
  let c63_i32 : BitVec 32 := 63#32
  let v198 : BitVec 32 := Scalar.addi c0_i32 c63_i32
  let c1_i32_88 : BitVec 32 := 1#32
  ⟨c0_i32, v198, c1_i32_88⟩
def k0_mult1 (k0_t1 : Fin k0_t1_loop.trips) : BitVec 32 :=
  let c0_i32 : BitVec 32 := 0#32
  let c1_i32_88 : BitVec 32 := 1#32
  let arg23 : BitVec 32 := Scf.iv c0_i32 c1_i32_88 k0_t1
  let c128_i32_1802 : BitVec 32 := 128#32
  let v4355 : BitVec 32 := Scalar.muli arg23 c128_i32_1802
  v4355
def k0_off2 (k0_t1 : Fin k0_t1_loop.trips) : Fin 4 → Nat :=
  let c0_1803 : Index := 0#32
  let c0_1804 : Index := 0#32
  let c0_i32 : BitVec 32 := 0#32
  let c1_i32_88 : BitVec 32 := 1#32
  let arg23 : BitVec 32 := Scf.iv c0_i32 c1_i32_88 k0_t1
  let c128_i32_1802 : BitVec 32 := 128#32
  let v4355 : BitVec 32 := Scalar.muli arg23 c128_i32_1802
  let v4356 : BitVec 32 := v4355
  let v4357 : Index := Scalar.indexCast v4356
  let c0_1805 : Index := 0#32
  ![0, 0, v4357.toNat, 0]
def k0_off3 (k0_t1 : Fin k0_t1_loop.trips) (c0_i32_1814 : BitVec 32) : Fin 2 → Nat :=
  let c0_i32 : BitVec 32 := 0#32
  let c1_i32_88 : BitVec 32 := 1#32
  let arg23 : BitVec 32 := Scf.iv c0_i32 c1_i32_88 k0_t1
  let c128_i32_1802 : BitVec 32 := 128#32
  let v4355 : BitVec 32 := Scalar.muli arg23 c128_i32_1802
  let v4356 : BitVec 32 := v4355
  let c0_i32_1808 : BitVec 32 := 0#32
  let v4369 : BitVec 1 := Scalar.cmpi .sgt v4356 c0_i32_1808
  let v4370 : BitVec 32 := Scalar.extui v4369
  let c0_i32_1809 : BitVec 32 := 0#32
  let v4371 : BitVec 1 := Scalar.cmpi .slt v4356 c0_i32_1809
  let v4372 : BitVec 32 := Scalar.extui v4371
  let v4373 : BitVec 32 := Scalar.subi v4370 v4372
  let c32_i32 : BitVec 32 := 32#32
  let c0_i32_1810 : BitVec 32 := 0#32
  let v4374 : BitVec 1 := Scalar.cmpi .sgt c32_i32 c0_i32_1810
  let v4375 : BitVec 32 := Scalar.extui v4374
  let c0_i32_1811 : BitVec 32 := 0#32
  let v4376 : BitVec 1 := Scalar.cmpi .slt c32_i32 c0_i32_1811
  let v4377 : BitVec 32 := Scalar.extui v4376
  let v4378 : BitVec 32 := Scalar.subi v4375 v4377
  let v4379 : BitVec 1 := Scalar.cmpi .ne v4373 v4378
  let v4380 : BitVec 32 := Scalar.remsi v4356 c32_i32
  let c0_i32_1812 : BitVec 32 := 0#32
  let v4381 : BitVec 1 := Scalar.cmpi .ne v4380 c0_i32_1812
  let v4382 : BitVec 1 := Scalar.andi v4379 v4381
  let v4368 : BitVec 32 := Scalar.divsi v4356 c32_i32
  let c1_i32_1813 : BitVec 32 := 1#32
  let v4383 : BitVec 32 := Scalar.subi v4368 c1_i32_1813
  let v4384 : BitVec 32 := Scalar.select v4382 v4383 v4368
  let v4385 : BitVec 32 := Scalar.addi v4384 c0_i32_1814
  let v4386 : Index := Scalar.indexCast v4385
  let c0_1815 : Index := 0#32
  ![v4386.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8064x64 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x252x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x252x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8064x64 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8064x4 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8064x4 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x64 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x4x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x4x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128x64 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x128x4 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x128x4 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S16x128x2048 : Shape := ⟨3, ![16, 128, 2048]⟩
abbrev S16x128x2x128 : Shape := ⟨4, ![16, 128, 2, 128]⟩
abbrev S16x2x8064x64 : Shape := ⟨4, ![16, 2, 8064, 64]⟩
abbrev S16x2x252x128 : Shape := ⟨4, ![16, 2, 252, 128]⟩
abbrev S16x2x8064x4 : Shape := ⟨4, ![16, 2, 8064, 4]⟩
abbrev S16x2x128x128 : Shape := ⟨4, ![16, 2, 128, 128]⟩
abbrev S16x2x4x32x128 : Shape := ⟨5, ![16, 2, 4, 32, 128]⟩
abbrev S_ : Shape := ⟨0, ![]⟩
abbrev S16x2x4x128 : Shape := ⟨4, ![16, 2, 4, 128]⟩
abbrev S16x2x4x1x128 : Shape := ⟨5, ![16, 2, 4, 1, 128]⟩
abbrev S16x2x128x64 : Shape := ⟨4, ![16, 2, 128, 64]⟩
abbrev S16x2x128x4x32 : Shape := ⟨5, ![16, 2, 128, 4, 32]⟩
abbrev S16x2x128x4 : Shape := ⟨4, ![16, 2, 128, 4]⟩
abbrev S16x2x128x4x1 : Shape := ⟨5, ![16, 2, 128, 4, 1]⟩
abbrev S16x2x8064x64x1 : Shape := ⟨5, ![16, 2, 8064, 64, 1]⟩
abbrev S16x2x8064x64x2 : Shape := ⟨5, ![16, 2, 8064, 64, 2]⟩
abbrev S16x2x8064x128 : Shape := ⟨4, ![16, 2, 8064, 128]⟩
abbrev S16x2x252x32x128 : Shape := ⟨5, ![16, 2, 252, 32, 128]⟩
abbrev S16x2x252x1x128 : Shape := ⟨5, ![16, 2, 252, 1, 128]⟩
abbrev S16x2x8064x4x32 : Shape := ⟨5, ![16, 2, 8064, 4, 32]⟩
abbrev S16x2x8064x4x1 : Shape := ⟨5, ![16, 2, 8064, 4, 1]⟩
abbrev S16x2x8320x128 : Shape := ⟨4, ![16, 2, 8320, 128]⟩
abbrev S16x128x2x8x128 : Shape := ⟨5, ![16, 128, 2, 8, 128]⟩
abbrev S16x2x8x128x128 : Shape := ⟨5, ![16, 2, 8, 128, 128]⟩
abbrev S16x2x8x128x8320 : Shape := ⟨5, ![16, 2, 8, 128, 8320]⟩
abbrev S128 : Shape := ⟨1, ![128]⟩
abbrev S128x1 : Shape := ⟨2, ![128, 1]⟩
abbrev S8320 : Shape := ⟨1, ![8320]⟩
abbrev S1x8320 : Shape := ⟨2, ![1, 8320]⟩
abbrev S128x8320 : Shape := ⟨2, ![128, 8320]⟩
abbrev S16x2x8x128 : Shape := ⟨4, ![16, 2, 8, 128]⟩
abbrev S16x2x8x128x1 : Shape := ⟨5, ![16, 2, 8, 128, 1]⟩

abbrev nBuf : Space → Nat
  | .hbm => 205
  | .vmem => 0
  | .smem => 0
  | _ => 0

abbrev hbmTy0_0 (i : Nat) : BufTy := match i % 128 with
  | 0 => ⟨S16x128x2048, .f32⟩
  | 1 => ⟨S16x128x2x128, .f32⟩
  | 2 => ⟨S16x128x2x128, .f32⟩
  | 3 => ⟨S16x2x8064x64, .i8⟩
  | 4 => ⟨S16x2x252x128, .bf16⟩
  | 5 => ⟨S16x2x252x128, .bf16⟩
  | 6 => ⟨S16x2x8064x64, .i8⟩
  | 7 => ⟨S16x2x8064x4, .bf16⟩
  | 8 => ⟨S16x2x8064x4, .bf16⟩
  | 9 => ⟨S16x2x128x128, .bf16⟩
  | 10 => ⟨S16x2x128x128, .bf16⟩
  | 11 => ⟨S16x2x128x128, .f32⟩
  | 12 => ⟨S16x2x128x128, .f32⟩
  | 13 => ⟨S16x2x4x32x128, .f32⟩
  | 14 => ⟨S_, .f32⟩
  | 15 => ⟨S16x2x4x128, .f32⟩
  | 16 => ⟨S16x2x4x1x128, .f32⟩
  | 17 => ⟨S_, .f32⟩
  | 18 => ⟨S16x2x4x128, .f32⟩
  | 19 => ⟨S16x2x4x1x128, .f32⟩
  | 20 => ⟨S16x2x4x1x128, .f32⟩
  | 21 => ⟨S_, .f32⟩
  | 22 => ⟨S16x2x4x1x128, .f32⟩
  | 23 => ⟨S16x2x4x1x128, .i1⟩
  | 24 => ⟨S_, .f32⟩
  | 25 => ⟨S16x2x4x1x128, .f32⟩
  | 26 => ⟨S16x2x4x1x128, .f32⟩
  | 27 => ⟨S_, .f32⟩
  | 28 => ⟨S_, .f32⟩
  | 29 => ⟨S16x2x4x1x128, .f32⟩
  | 30 => ⟨S16x2x4x1x128, .f32⟩
  | 31 => ⟨S16x2x4x1x128, .bf16⟩
  | 32 => ⟨S16x2x4x1x128, .bf16⟩
  | 33 => ⟨S16x2x4x1x128, .f32⟩
  | 34 => ⟨S16x2x4x32x128, .f32⟩
  | 35 => ⟨S16x2x4x32x128, .f32⟩
  | 36 => ⟨S16x2x4x1x128, .f32⟩
  | 37 => ⟨S16x2x4x32x128, .f32⟩
  | 38 => ⟨S16x2x4x32x128, .f32⟩
  | 39 => ⟨S16x2x4x32x128, .f32⟩
  | 40 => ⟨S_, .f32⟩
  | 41 => ⟨S_, .f32⟩
  | 42 => ⟨S_, .f32⟩
  | 43 => ⟨S16x2x4x32x128, .f32⟩
  | 44 => ⟨S16x2x4x32x128, .f32⟩
  | 45 => ⟨S_, .f32⟩
  | 46 => ⟨S16x2x4x32x128, .f32⟩
  | 47 => ⟨S16x2x4x32x128, .f32⟩
  | 48 => ⟨S16x2x4x32x128, .bf16⟩
  | 49 => ⟨S16x2x4x32x128, .bf16⟩
  | 50 => ⟨S16x2x4x32x128, .bf16⟩
  | 51 => ⟨S16x2x4x32x128, .bf16⟩
  | 52 => ⟨S16x2x4x32x128, .bf16⟩
  | 53 => ⟨S16x2x128x128, .bf16⟩
  | 54 => ⟨S16x2x128x128, .f32⟩
  | 55 => ⟨S16x2x128x128, .i32⟩
  | 56 => ⟨S16x2x128x64, .i32⟩
  | 57 => ⟨S16x2x128x64, .i32⟩
  | 58 => ⟨S_, .i32⟩
  | 59 => ⟨S16x2x128x64, .i32⟩
  | 60 => ⟨S16x2x128x64, .i32⟩
  | 61 => ⟨S16x2x128x64, .i32⟩
  | 62 => ⟨S16x2x128x64, .i8⟩
  | 63 => ⟨S16x2x128x4x32, .f32⟩
  | 64 => ⟨S_, .f32⟩
  | 65 => ⟨S16x2x128x4, .f32⟩
  | 66 => ⟨S16x2x128x4x1, .f32⟩
  | 67 => ⟨S_, .f32⟩
  | 68 => ⟨S16x2x128x4, .f32⟩
  | 69 => ⟨S16x2x128x4x1, .f32⟩
  | 70 => ⟨S16x2x128x4x1, .f32⟩
  | 71 => ⟨S_, .f32⟩
  | 72 => ⟨S16x2x128x4x1, .f32⟩
  | 73 => ⟨S16x2x128x4x1, .i1⟩
  | 74 => ⟨S_, .f32⟩
  | 75 => ⟨S16x2x128x4x1, .f32⟩
  | 76 => ⟨S16x2x128x4x1, .f32⟩
  | 77 => ⟨S_, .f32⟩
  | 78 => ⟨S_, .f32⟩
  | 79 => ⟨S16x2x128x4x1, .f32⟩
  | 80 => ⟨S16x2x128x4x1, .f32⟩
  | 81 => ⟨S16x2x128x4x1, .bf16⟩
  | 82 => ⟨S16x2x128x4x1, .bf16⟩
  | 83 => ⟨S16x2x128x4x1, .f32⟩
  | 84 => ⟨S16x2x128x4x32, .f32⟩
  | 85 => ⟨S16x2x128x4x32, .f32⟩
  | 86 => ⟨S16x2x128x4x1, .f32⟩
  | 87 => ⟨S16x2x128x4x32, .f32⟩
  | 88 => ⟨S16x2x128x4x32, .f32⟩
  | 89 => ⟨S16x2x128x4x32, .f32⟩
  | 90 => ⟨S_, .f32⟩
  | 91 => ⟨S_, .f32⟩
  | 92 => ⟨S_, .f32⟩
  | 93 => ⟨S16x2x128x4x32, .f32⟩
  | 94 => ⟨S16x2x128x4x32, .f32⟩
  | 95 => ⟨S_, .f32⟩
  | 96 => ⟨S16x2x128x4x32, .f32⟩
  | 97 => ⟨S16x2x128x4x32, .f32⟩
  | 98 => ⟨S16x2x128x4x32, .bf16⟩
  | 99 => ⟨S16x2x128x4x32, .bf16⟩
  | 100 => ⟨S16x2x128x4x32, .bf16⟩
  | 101 => ⟨S16x2x128x4x32, .bf16⟩
  | 102 => ⟨S16x2x128x4x32, .bf16⟩
  | 103 => ⟨S16x2x128x128, .bf16⟩
  | 104 => ⟨S16x2x128x128, .f32⟩
  | 105 => ⟨S16x2x128x128, .i32⟩
  | 106 => ⟨S16x2x128x64, .i32⟩
  | 107 => ⟨S16x2x128x64, .i32⟩
  | 108 => ⟨S_, .i32⟩
  | 109 => ⟨S16x2x128x64, .i32⟩
  | 110 => ⟨S16x2x128x64, .i32⟩
  | 111 => ⟨S16x2x128x64, .i32⟩
  | 112 => ⟨S16x2x128x64, .i8⟩
  | 113 => ⟨S16x2x8064x64, .i32⟩
  | 114 => ⟨S_, .i32⟩
  | 115 => ⟨S16x2x8064x64, .i32⟩
  | 116 => ⟨S16x2x8064x64, .i32⟩
  | 117 => ⟨S_, .i32⟩
  | 118 => ⟨S16x2x8064x64, .i32⟩
  | 119 => ⟨S16x2x8064x64, .i32⟩
  | 120 => ⟨S16x2x8064x64x1, .i32⟩
  | 121 => ⟨S16x2x8064x64x1, .i32⟩
  | 122 => ⟨S16x2x8064x64x2, .i32⟩
  | 123 => ⟨S16x2x8064x128, .i32⟩
  | 124 => ⟨S16x2x8064x128, .f32⟩
  | 125 => ⟨S16x2x8064x128, .bf16⟩
  | 126 => ⟨S16x2x252x32x128, .bf16⟩
  | 127 => ⟨S16x2x252x1x128, .bf16⟩
  | _ => ⟨S16x128x2048, .f32⟩

abbrev hbmTy0_1 (i : Nat) : BufTy := match i % 128 with
  | 0 => ⟨S16x2x252x32x128, .bf16⟩
  | 1 => ⟨S16x2x252x32x128, .bf16⟩
  | 2 => ⟨S16x2x252x1x128, .bf16⟩
  | 3 => ⟨S16x2x252x32x128, .bf16⟩
  | 4 => ⟨S16x2x252x32x128, .bf16⟩
  | 5 => ⟨S16x2x8064x64, .i32⟩
  | 6 => ⟨S_, .i32⟩
  | 7 => ⟨S16x2x8064x64, .i32⟩
  | 8 => ⟨S16x2x8064x64, .i32⟩
  | 9 => ⟨S_, .i32⟩
  | 10 => ⟨S16x2x8064x64, .i32⟩
  | 11 => ⟨S16x2x8064x64, .i32⟩
  | 12 => ⟨S16x2x8064x64x1, .i32⟩
  | 13 => ⟨S16x2x8064x64x1, .i32⟩
  | 14 => ⟨S16x2x8064x64x2, .i32⟩
  | 15 => ⟨S16x2x8064x128, .i32⟩
  | 16 => ⟨S16x2x8064x128, .f32⟩
  | 17 => ⟨S16x2x8064x128, .bf16⟩
  | 18 => ⟨S16x2x8064x4x32, .bf16⟩
  | 19 => ⟨S16x2x8064x4x1, .bf16⟩
  | 20 => ⟨S16x2x8064x4x32, .bf16⟩
  | 21 => ⟨S16x2x8064x4x32, .bf16⟩
  | 22 => ⟨S16x2x8064x4x1, .bf16⟩
  | 23 => ⟨S16x2x8064x4x32, .bf16⟩
  | 24 => ⟨S16x2x8064x4x32, .bf16⟩
  | 25 => ⟨S16x2x8064x128, .bf16⟩
  | 26 => ⟨S16x2x8320x128, .bf16⟩
  | 27 => ⟨S16x2x8064x128, .bf16⟩
  | 28 => ⟨S16x2x8320x128, .bf16⟩
  | 29 => ⟨S16x128x2x8x128, .f32⟩
  | 30 => ⟨S16x2x8x128x128, .f32⟩
  | 31 => ⟨S16x2x8x128x128, .bf16⟩
  | 32 => ⟨S16x2x8x128x8320, .f32⟩
  | 33 => ⟨S128, .i32⟩
  | 34 => ⟨S128x1, .i32⟩
  | 35 => ⟨S8320, .i32⟩
  | 36 => ⟨S1x8320, .i32⟩
  | 37 => ⟨S_, .i32⟩
  | 38 => ⟨S1x8320, .i32⟩
  | 39 => ⟨S1x8320, .i32⟩
  | 40 => ⟨S128x8320, .i32⟩
  | 41 => ⟨S128x8320, .i32⟩
  | 42 => ⟨S128x8320, .i1⟩
  | 43 => ⟨S_, .f32⟩
  | 44 => ⟨S_, .f32⟩
  | 45 => ⟨S16x2x8x128x8320, .i1⟩
  | 46 => ⟨S16x2x8x128x8320, .f32⟩
  | 47 => ⟨S16x2x8x128x8320, .f32⟩
  | 48 => ⟨S_, .f32⟩
  | 49 => ⟨S16x2x8x128, .f32⟩
  | 50 => ⟨S16x2x8x128x1, .f32⟩
  | 51 => ⟨S16x2x8x128x8320, .f32⟩
  | 52 => ⟨S16x2x8x128x8320, .f32⟩
  | 53 => ⟨S_, .f32⟩
  | 54 => ⟨S16x2x8x128x8320, .f32⟩
  | 55 => ⟨S16x2x8x128x8320, .f32⟩
  | 56 => ⟨S_, .f32⟩
  | 57 => ⟨S16x2x8x128x8320, .f32⟩
  | 58 => ⟨S16x2x8x128x8320, .f32⟩
  | 59 => ⟨S_, .f32⟩
  | 60 => ⟨S_, .f32⟩
  | 61 => ⟨S16x2x8x128x8320, .i1⟩
  | 62 => ⟨S16x2x8x128x8320, .f32⟩
  | 63 => ⟨S16x2x8x128x8320, .f32⟩
  | 64 => ⟨S16x2x8x128x8320, .bf16⟩
  | 65 => ⟨S16x2x8x128x128, .f32⟩
  | 66 => ⟨S_, .f32⟩
  | 67 => ⟨S16x2x8x128, .f32⟩
  | 68 => ⟨S16x2x8x128x1, .f32⟩
  | 69 => ⟨S16x2x8x128x128, .f32⟩
  | 70 => ⟨S16x2x8x128x128, .f32⟩
  | 71 => ⟨S16x128x2x8x128, .f32⟩
  | 72 => ⟨S16x128x2048, .f32⟩
  | 73 => ⟨S16x2x4x128, .bf16⟩
  | 74 => ⟨S16x2x4x128, .bf16⟩
  | 75 => ⟨S16x2x128x4, .bf16⟩
  | 76 => ⟨S16x2x128x4, .bf16⟩
  | _ => ⟨S16x128x2048, .f32⟩

abbrev hbmTy (i : Nat) : BufTy := match i / 128 with
  | 0 => hbmTy0_0 i
  | 1 => hbmTy0_1 i
  | _ => ⟨S16x128x2048, .f32⟩

abbrev bufTy : (tb : Table) → Fin (tcTables nBuf tb) → BufTy
  | .hbm, ⟨i, _⟩ => hbmTy i
  | _, _ => ⟨S16x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_cst_5 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_call3_v0 : Ref sig .tc := ⟨.hbm, 78, rfl⟩
abbrev main_call3_v1 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_cst_12 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_14 : Ref sig .tc := ⟨.hbm, 114, rfl⟩
abbrev main_v73 : Ref sig .tc := ⟨.hbm, 115, rfl⟩
abbrev main_v74 : Ref sig .tc := ⟨.hbm, 116, rfl⟩
abbrev main_c_15 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_16 : Ref sig .tc := ⟨.hbm, 134, rfl⟩
abbrev main_v91 : Ref sig .tc := ⟨.hbm, 135, rfl⟩
abbrev main_v92 : Ref sig .tc := ⟨.hbm, 136, rfl⟩
abbrev main_c_17 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_c_18 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_19 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_v125 : Ref sig .tc := ⟨.hbm, 175, rfl⟩
abbrev main_cst_20 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_21 : Ref sig .tc := ⟨.hbm, 181, rfl⟩
abbrev main_v130 : Ref sig .tc := ⟨.hbm, 182, rfl⟩
abbrev main_v131 : Ref sig .tc := ⟨.hbm, 183, rfl⟩
abbrev main_cst_22 : Ref sig .tc := ⟨.hbm, 184, rfl⟩
abbrev main_v132 : Ref sig .tc := ⟨.hbm, 185, rfl⟩
abbrev main_v133 : Ref sig .tc := ⟨.hbm, 186, rfl⟩
abbrev main_cst_23 : Ref sig .tc := ⟨.hbm, 187, rfl⟩
abbrev main_call7_v0 : Ref sig .tc := ⟨.hbm, 188, rfl⟩
abbrev main_call7_v1 : Ref sig .tc := ⟨.hbm, 189, rfl⟩
abbrev main_call7_v2 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_24 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩

abbrev nD : Nat := 1
abbrev τ : Topo := Topo.v7x

variable {F : FTy → Type} [FloatOps F]
-- ==== Proof.Spec.lean ====
/- The mathematics of one (batch, key/value head) pair, as plain functions of its data: what both programs compute. -/
module

public import Idealize.ShloMosaic.Lib.Pointwise
public import Idealize.ShloMosaic.PureOps.Ideal.Laws

@[expose] public section

noncomputable section

namespace Cert.Proof

open Idealize.ShloMosaic

/-- The least element of a group of 32. -/
def qmin (f : Fin 32 → EReal) : EReal := Finset.univ.fold min (Ideal.ofBits .f32 0x7F800000#32) f
/-- The greatest element of a group of 32. -/
def qmax (f : Fin 32 → EReal) : EReal := Finset.univ.fold max (Ideal.ofBits .f32 0xFF800000#32) f
/-- The scale of a group: a fifteenth of its range, or one where the range is zero. -/
def qscale (f : Fin 32 → EReal) : EReal :=
  if 0 < qmax f - qmin f then Ideal.div (qmax f - qmin f) (Ideal.ofBits .f32 0x41700000#32) else 1
/-- The code of `x` in a group of least element `z` and scale `s`: an integer from 0 to 15. -/
def qcodeOf (z s x : EReal) : EReal :=
  min (Ideal.ofBits .f32 0x41700000#32) (max 0 (Ideal.liftRound Ideal.roundHalfEven (Ideal.div (x - z) s)))
/-- The code of `x` in the group `f`. -/
def qcode (f : Fin 32 → EReal) (x : EReal) : EReal := qcodeOf (qmin f) (qscale f) x
/-- `x` quantised and read back. -/
def qdeq (f : Fin 32 → EReal) (x : EReal) : EReal := qcode f x * qscale f + qmin f
/-- Two codes in a byte, the first in the low half. -/
def packByte (lo hi : EReal) : BitVec 8 := ((Ideal.fptosi 32 lo) ||| (Ideal.fptosi 32 hi <<< 4)).setWidth 8
/-- The code of channel `c` in a byte that holds two: the even channel's in the low half. -/
def nib (w : BitVec 8) (c : ℕ) : EReal := (((if c % 2 = 0 then w.toNat % 16 else w.toNat / 16 : ℕ) : ℝ) : EReal)

/-- The data of one (batch, key/value head) pair. -/
structure Head where
  q : Fin 8 → Fin 128 → Fin 128 → EReal
  kn : Fin 128 → Fin 128 → EReal
  vn : Fin 128 → Fin 128 → EReal
  kc : Fin 8064 → Fin 64 → BitVec 8
  ks : Fin 252 → Fin 128 → EReal
  kz : Fin 252 → Fin 128 → EReal
  vc : Fin 8064 → Fin 64 → BitVec 8
  vs : Fin 8064 → Fin 4 → EReal
  vz : Fin 8064 → Fin 4 → EReal
  kt : Fin 128 → Fin 128 → EReal
  vt : Fin 128 → Fin 128 → EReal

namespace Head
variable (h : Head)

/-- A group of new keys: 32 tokens of one channel. -/
def kgrp (g : Fin 4) (c : Fin 128) : Fin 32 → EReal := fun e => h.kn ⟨g.val * 32 + e.val, by omega⟩ c
/-- A group of new values: 32 channels of one token. -/
def vgrp (t : Fin 128) (g : Fin 4) : Fin 32 → EReal := fun e => h.vn t ⟨g.val * 32 + e.val, by omega⟩

def kscale (g : Fin 4) (c : Fin 128) : EReal := qscale (h.kgrp g c)
def kzero (g : Fin 4) (c : Fin 128) : EReal := qmin (h.kgrp g c)
def vscale (t : Fin 128) (g : Fin 4) : EReal := qscale (h.vgrp t g)
def vzero (t : Fin 128) (g : Fin 4) : EReal := qmin (h.vgrp t g)
def kcode (t c : Fin 128) : EReal := qcode (h.kgrp ⟨t.val / 32, by omega⟩ c) (h.kn t c)
def vcode (t c : Fin 128) : EReal := qcode (h.vgrp t ⟨c.val / 32, by omega⟩) (h.vn t c)
def kbyte (t : Fin 128) (j : Fin 64) : BitVec 8 :=
  packByte (h.kcode t ⟨2 * j.val, by omega⟩) (h.kcode t ⟨2 * j.val + 1, by omega⟩)
def vbyte (t : Fin 128) (j : Fin 64) : BitVec 8 :=
  packByte (h.vcode t ⟨2 * j.val, by omega⟩) (h.vcode t ⟨2 * j.val + 1, by omega⟩)
def keyNew (t c : Fin 128) : EReal := qdeq (h.kgrp ⟨t.val / 32, by omega⟩ c) (h.kn t c)
def valNew (t c : Fin 128) : EReal := qdeq (h.vgrp t ⟨c.val / 32, by omega⟩) (h.vn t c)
def keyCache (t : Fin 8064) (c : Fin 128) : EReal :=
  nib (h.kc t ⟨c.val / 2, by omega⟩) c.val * h.ks ⟨t.val / 32, by omega⟩ c + h.kz ⟨t.val / 32, by omega⟩ c
def valCache (t : Fin 8064) (c : Fin 128) : EReal :=
  nib (h.vc t ⟨c.val / 2, by omega⟩) c.val * h.vs t ⟨c.val / 32, by omega⟩ + h.vz t ⟨c.val / 32, by omega⟩

/-- All keys: the cache, the tail, the new tokens. -/
def key (t : Fin 8320) (c : Fin 128) : EReal :=
  if h1 : t.val < 8064 then h.keyCache ⟨t.val, h1⟩ c
  else if h2 : t.val < 8192 then h.kt ⟨t.val - 8064, by omega⟩ c
  else h.keyNew ⟨t.val - 8192, by omega⟩ c
/-- All values. -/
def val (t : Fin 8320) (c : Fin 128) : EReal :=
  if h1 : t.val < 8064 then h.valCache ⟨t.val, h1⟩ c
  else if h2 : t.val < 8192 then h.vt ⟨t.val - 8064, by omega⟩ c
  else h.valNew ⟨t.val - 8192, by omega⟩ c

/-- The score of a key row against query head `g` of token `s`. -/
def dot (g : Fin 8) (s : Fin 128) (k : Fin 128 → EReal) : EReal := ∑ c : Fin 128, h.q g s c * k c
/-- The score a masked key gets. -/
def negInf : EReal := Ideal.ofBits .f32 0xF149F2CA#32
/-- The greatest score a query sees. -/
def top (g : Fin 8) (s : Fin 128) : EReal :=
  Finset.univ.sup fun t : Fin 8320 => if t.val ≤ 8192 + s.val then h.dot g s (h.key t) else negInf
/-- The weight of a score. -/
def weight (g : Fin 8) (s : Fin 128) (k : Fin 128 → EReal) : EReal :=
  Ideal.exp2 ((h.dot g s k - h.top g s) * Ideal.ofBits .f32 0x3E0293EE#32)
/-- The weight of key `t`: nothing for a token after the query's. -/
def prob (g : Fin 8) (s : Fin 128) (t : Fin 8320) : EReal :=
  if t.val ≤ 8192 + s.val then h.weight g s (h.key t) else 0
/-- The attention of query head `g` of token `s`, channel `c`. -/
def out (g : Fin 8) (s c : Fin 128) : EReal :=
  Ideal.div (∑ t : Fin 8320, h.prob g s t * h.val t c) (∑ t : Fin 8320, h.prob g s t)

end Head

end Cert.Proof
-- ==== Proof.Data.lean ====
/- The argument arrays as the data of each (batch, key/value head) pair, and the seven result arrays. -/
module

public import proofs.«01_k».proof.Proof.Spec

@[expose] public section

noncomputable section

namespace Cert.Proof

open Idealize.ShloMosaic Idealize.ShloMosaic.Pointwise

/-- The eleven arguments of a call. -/
structure Args where
  x : Vec Ideal ⟨3, ![16, 128, 2048]⟩ .f32
  kNew : Vec Ideal ⟨4, ![16, 128, 2, 128]⟩ .f32
  vNew : Vec Ideal ⟨4, ![16, 128, 2, 128]⟩ .f32
  kCodes : Vec Ideal ⟨4, ![16, 2, 8064, 64]⟩ .i8
  kScales : Vec Ideal ⟨4, ![16, 2, 252, 128]⟩ .bf16
  kZeros : Vec Ideal ⟨4, ![16, 2, 252, 128]⟩ .bf16
  vCodes : Vec Ideal ⟨4, ![16, 2, 8064, 64]⟩ .i8
  vScales : Vec Ideal ⟨4, ![16, 2, 8064, 4]⟩ .bf16
  vZeros : Vec Ideal ⟨4, ![16, 2, 8064, 4]⟩ .bf16
  kTail : Vec Ideal ⟨4, ![16, 2, 128, 128]⟩ .bf16
  vTail : Vec Ideal ⟨4, ![16, 2, 128, 128]⟩ .bf16

namespace Args
variable (a : Args)

/-- The data of key/value head `hh` of batch `b`. -/
def head (b : Fin 16) (hh : Fin 2) : Head where
  q g s c := a.x (ix3 b s ⟨1024 * hh.val + 128 * g.val + c.val, by omega⟩)
  kn s c := a.kNew (ix4 b s hh c)
  vn s c := a.vNew (ix4 b s hh c)
  kc t j := a.kCodes (ix4 b hh t j)
  ks n c := a.kScales (ix4 b hh n c)
  kz n c := a.kZeros (ix4 b hh n c)
  vc t j := a.vCodes (ix4 b hh t j)
  vs t e := a.vScales (ix4 b hh t e)
  vz t e := a.vZeros (ix4 b hh t e)
  kt t c := a.kTail (ix4 b hh t c)
  vt t c := a.vTail (ix4 b hh t c)

/-- The attention. -/
def y : Vec Ideal ⟨3, ![16, 128, 2048]⟩ .f32 := fun i =>
  (a.head (i 0) ⟨(i 2).val / 1024, by have : (i 2).val < 2048 := (i 2).isLt; omega⟩).out ⟨(i 2).val % 1024 / 128, by omega⟩ (i 1) ⟨(i 2).val % 128, by omega⟩
/-- The new keys' packed codes, scales and zero points. -/
def kBytes : Vec Ideal ⟨4, ![16, 2, 128, 64]⟩ .i8 := fun i => (a.head (i 0) (i 1)).kbyte (i 2) (i 3)
def kS : Vec Ideal ⟨4, ![16, 2, 4, 128]⟩ .bf16 := fun i => (a.head (i 0) (i 1)).kscale (i 2) (i 3)
def kZ : Vec Ideal ⟨4, ![16, 2, 4, 128]⟩ .bf16 := fun i => (a.head (i 0) (i 1)).kzero (i 2) (i 3)
/-- The new values' packed codes, scales and zero points. -/
def vBytes : Vec Ideal ⟨4, ![16, 2, 128, 64]⟩ .i8 := fun i => (a.head (i 0) (i 1)).vbyte (i 2) (i 3)
def vS : Vec Ideal ⟨4, ![16, 2, 128, 4]⟩ .bf16 := fun i => (a.head (i 0) (i 1)).vscale (i 2) (i 3)
def vZ : Vec Ideal ⟨4, ![16, 2, 128, 4]⟩ .bf16 := fun i => (a.head (i 0) (i 1)).vzero (i 2) (i 3)

end Args

end Cert.Proof
-- ==== Proof.Chunk.lean ====
/- The kernel's chunks of 256 cached tokens: the probabilities of one, its part of the numerator and of the denominator, and the sums of the parts. -/
module

public import proofs.«01_k».proof.Proof.Gen.KernelIdeal.Value

@[expose] public section

noncomputable section

namespace Cert.Proof

open Idealize.ShloMosaic Cert.KernelIdeal Cert.KernelIdeal.Gen

variable {F : FTy → Type} [FloatOps F] [Cert.KernelIdeal.Facts]

section
variable (kl : (j : ℕ) → j < 31 → Vec F S1x1x256x64 .i8) (ks kz : (n : ℕ) → n < 252 → Vec F S1x128 .f32)
  (vl : (j : ℕ) → j < 31 → Vec F S1x1x256x64 .i8) (sl zl : (j : ℕ) → j < 31 → Vec F S1x1x256x4 .bf16)
  (qt : Vec F S256x1024 .bf16)

/-- The scaled scores of chunk `j`. -/
def chunkScore (j : ℕ) (hj : j < 31) : FVec F S256x1024 .f32 :=
  k0_pay45 (k0_pay44 (kl j hj) (ks (8 * j + 0) (by omega)) (ks (8 * j + 1) (by omega)) (ks (8 * j + 2) (by omega)) (ks (8 * j + 3) (by omega)) (ks (8 * j + 4) (by omega)) (ks (8 * j + 5) (by omega)) (ks (8 * j + 6) (by omega)) (ks (8 * j + 7) (by omega)))
    (kz (8 * j + 0) (by omega)) (kz (8 * j + 1) (by omega)) (kz (8 * j + 2) (by omega)) (kz (8 * j + 3) (by omega)) (kz (8 * j + 4) (by omega)) (kz (8 * j + 5) (by omega)) (kz (8 * j + 6) (by omega)) (kz (8 * j + 7) (by omega)) qt
/-- Chunk `j`'s part of the numerator. -/
def chunkAcc (j : ℕ) (hj : j < 31) : FVec F S128x1024 .f32 :=
  k0_pay49 (k0_pay46 (chunkScore kl ks kz qt j hj)) (k0_pay48 (vl j hj) (sl j hj) (zl j hj))
/-- Chunk `j`'s part of the denominator, in eight rows. -/
def chunkSum (j : ℕ) (hj : j < 31) : FVec F S8x1024 .f32 := k0_pay47 (chunkScore kl ks kz qt j hj)
/-- The numerator after chunk `j`. -/
def accAt : (j : ℕ) → j < 31 → FVec F S128x1024 .f32
  | 0, h => chunkAcc kl ks kz vl sl zl qt 0 h
  | j + 1, h => addf (accAt j (Nat.lt_of_succ_lt h)) (chunkAcc kl ks kz vl sl zl qt (j + 1) h)
/-- The denominator's eight rows after chunk `j`. -/
def sumAt : (j : ℕ) → j < 31 → FVec F S8x1024 .f32
  | 0, h => chunkSum kl ks kz qt 0 h
  | j + 1, h => addf (sumAt j (Nat.lt_of_succ_lt h)) (chunkSum kl ks kz qt (j + 1) h)
end

end Cert.Proof
-- ==== Proof.Bridge.lean ====
/- The run's own numerator and denominator after the cached chunks are the sums of the parts. -/
module

public import proofs.«01_k».proof.Proof.Chunk

@[expose] public section

noncomputable section

namespace Cert.Proof

open Idealize.ShloMosaic Idealize.ShloMosaic.TcCoe Cert.KernelIdeal Cert.KernelIdeal.Gen

variable {F : FTy → Type} [FloatOps F]

/-- The codes of chunk `j`, as loaded. -/
def ldCodes (a : Memref sig .tc .vmem S1x1x8064x64 .i8) (ha : a.IsWhole) (x : Vec F S1x1x8064x64 .i8) (j : ℕ) (hj : j < 31) :
    Vec F S1x1x256x64 .i8 :=
  View.readAt (Elt F) a.view (Rect.unit (s := S1x1x8064x64) ![0, 0, 256 * j, 0] S1x1x256x64.size
    (by intro a; fin_cases a <;> simp [S1x1x256x64, S1x1x8064x64] <;> omega)).toLoadRect (ha.unread x)
/-- The value scales or zero points of chunk `j`, as loaded. -/
def ldScales (a : Memref sig .tc .vmem S1x1x8064x4 .bf16) (ha : a.IsWhole) (x : Vec F S1x1x8064x4 .bf16) (j : ℕ) (hj : j < 31) :
    Vec F S1x1x256x4 .bf16 :=
  View.readAt (Elt F) a.view (Rect.unit (s := S1x1x8064x4) ![0, 0, 256 * j, 0] S1x1x256x4.size
    (by intro a; fin_cases a <;> simp [S1x1x256x4, S1x1x8064x4] <;> omega)).toLoadRect (ha.unread x)
/-- Row `n` of the permuted key scales or zero points, as loaded from scratch. -/
def ldRow (a : Memref sig .tc .vmem S252x128 .f32) (H : List (View.Piece (Elt F) S252x128 .f32)) (n : ℕ) (hn : n < 252) : Vec F S1x128 .f32 :=
  a.view.readCov H (Rect.unit (s := S252x128) ![n, 0] S1x128.size
    (by intro a; fin_cases a <;> simp [S1x128, S252x128] <;> omega)).toLoadRect

set_option maxRecDepth 100000 in
set_option maxHeartbeats 4000000 in
/-- The numerator after the last whole chunk. -/
theorem acc_word (c : Dev nD) (i : grid0.Coords) (arg2 : Memref sig .tc .vmem S1x128x1024 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x1x8064x64 .i8) (harg5 : arg5.IsWhole) (arg6 : Memref sig .tc .vmem S1x1x252x128 .bf16) (harg6 : arg6.IsWhole) (arg7 : Memref sig .tc .vmem S1x1x252x128 .bf16) (harg7 : arg7.IsWhole) (arg8 : Memref sig .tc .vmem S1x1x8064x64 .i8) (harg8 : arg8.IsWhole) (arg9 : Memref sig .tc .vmem S1x1x8064x4 .bf16) (harg9 : arg9.IsWhole) (arg10 : Memref sig .tc .vmem S1x1x8064x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x128x1024 .f32) (harg13 : arg13.IsWhole) (arg14 : Memref sig .tc .vmem S1x1x128x64 .i8) (harg14 : arg14.IsWhole) (arg15 : Memref sig .tc .vmem S1x1x4x128 .bf16) (harg15 : arg15.IsWhole) (arg16 : Memref sig .tc .vmem S1x1x4x128 .bf16) (harg16 : arg16.IsWhole) (arg17 : Memref sig .tc .vmem S1x1x128x64 .i8) (harg17 : arg17.IsWhole) (arg18 : Memref sig .tc .vmem S1x1x128x4 .bf16) (harg18 : arg18.IsWhole) (arg19 : Memref sig .tc .vmem S1x1x128x4 .bf16) (harg19 : arg19.IsWhole) (arg20 : Memref sig .tc .vmem S256x1024 .bf16) (harg20 : arg20.IsWhole) (arg21 : Memref sig .tc .vmem S252x128 .f32) (harg21 : arg21.IsWhole) (arg22 : Memref sig .tc .vmem S252x128 .f32) (harg22 : arg22.IsWhole) (x0 : Vec F S1x128x1024 .f32) (x1 : Vec F S1x256x128 .f32) (x2 : Vec F S1x256x128 .f32) (x3 : Vec F S1x1x8064x64 .i8) (x4 : Vec F S1x1x252x128 .bf16) (x5 : Vec F S1x1x252x128 .bf16) (x6 : Vec F S1x1x8064x64 .i8) (x7 : Vec F S1x1x8064x4 .bf16) (x8 : Vec F S1x1x8064x4 .bf16) (x9 : Vec F S1x1x128x128 .bf16) (x10 : Vec F S1x1x128x128 .bf16) :
    kernelRun0_A.sl.r_441 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 x4 x5 x6 x7 x8 x9
      = accAt (ldCodes arg5 harg5 x3) (ldRow arg21 (kernelRun0_A.sl.HS1_1 c arg6 harg6 x4)) (ldRow arg22 (kernelRun0_A.sl.HS2_1 c arg7 harg7 x5))
          (ldCodes arg8 harg8 x6) (ldScales arg9 harg9 x7) (ldScales arg10 harg10 x8)
          (kernelRun0_A.sl.v311 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 x4 x5 x9) 30 (by omega) := by
  rfl

set_option maxRecDepth 100000 in
set_option maxHeartbeats 4000000 in
/-- The denominator after the last whole chunk. -/
theorem sum_word (c : Dev nD) (i : grid0.Coords) (arg2 : Memref sig .tc .vmem S1x128x1024 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x1x8064x64 .i8) (harg5 : arg5.IsWhole) (arg6 : Memref sig .tc .vmem S1x1x252x128 .bf16) (harg6 : arg6.IsWhole) (arg7 : Memref sig .tc .vmem S1x1x252x128 .bf16) (harg7 : arg7.IsWhole) (arg8 : Memref sig .tc .vmem S1x1x8064x64 .i8) (harg8 : arg8.IsWhole) (arg9 : Memref sig .tc .vmem S1x1x8064x4 .bf16) (harg9 : arg9.IsWhole) (arg10 : Memref sig .tc .vmem S1x1x8064x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x128x1024 .f32) (harg13 : arg13.IsWhole) (arg14 : Memref sig .tc .vmem S1x1x128x64 .i8) (harg14 : arg14.IsWhole) (arg15 : Memref sig .tc .vmem S1x1x4x128 .bf16) (harg15 : arg15.IsWhole) (arg16 : Memref sig .tc .vmem S1x1x4x128 .bf16) (harg16 : arg16.IsWhole) (arg17 : Memref sig .tc .vmem S1x1x128x64 .i8) (harg17 : arg17.IsWhole) (arg18 : Memref sig .tc .vmem S1x1x128x4 .bf16) (harg18 : arg18.IsWhole) (arg19 : Memref sig .tc .vmem S1x1x128x4 .bf16) (harg19 : arg19.IsWhole) (arg20 : Memref sig .tc .vmem S256x1024 .bf16) (harg20 : arg20.IsWhole) (arg21 : Memref sig .tc .vmem S252x128 .f32) (harg21 : arg21.IsWhole) (arg22 : Memref sig .tc .vmem S252x128 .f32) (harg22 : arg22.IsWhole) (x0 : Vec F S1x128x1024 .f32) (x1 : Vec F S1x256x128 .f32) (x2 : Vec F S1x256x128 .f32) (x3 : Vec F S1x1x8064x64 .i8) (x4 : Vec F S1x1x252x128 .bf16) (x5 : Vec F S1x1x252x128 .bf16) (x6 : Vec F S1x1x8064x64 .i8) (x7 : Vec F S1x1x8064x4 .bf16) (x8 : Vec F S1x1x8064x4 .bf16) (x9 : Vec F S1x1x128x128 .bf16) (x10 : Vec F S1x1x128x128 .bf16) :
    kernelRun0_A.sl.r_442 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 x4 x5 x9
      = sumAt (ldCodes arg5 harg5 x3) (ldRow arg21 (kernelRun0_A.sl.HS1_1 c arg6 harg6 x4)) (ldRow arg22 (kernelRun0_A.sl.HS2_1 c arg7 harg7 x5))
          (kernelRun0_A.sl.v311 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 x4 x5 x9) 30 (by omega) := by
  rfl

end Cert.Proof
-- ==== Proof.Perm.lean ====
/- The kernel's channel permutation and packing matrices, and what a product with them does. -/
module

public import proofs.«01_k».proof.Proof.Gen.KernelIdeal.Skeleton
public import proofs.«01_k».proof.Proof.Spec

@[expose] public section

noncomputable section

namespace Cert.Proof

open Cert.KernelIdeal Cert.KernelIdeal.Gen Idealize.ShloMosaic Idealize.ShloMosaic.Pointwise

variable [Cert.KernelIdeal.Facts]

/-- The channel a lane holds: the even channels first, then the odd ones. -/
def chan (l : Fin 128) : Fin 128 :=
  if h : l.val < 64 then ⟨2 * l.val, by omega⟩ else ⟨2 * l.val - 127, by omega⟩

/-- The lane that holds a channel. -/
def lane (c : Fin 128) : Fin 128 := ⟨c.val / 2 + c.val % 2 * 64, by omega⟩

theorem chan_lane (c : Fin 128) : chan (lane c) = c := by revert c; decide
theorem lane_chan (l : Fin 128) : lane (chan l) = l := by revert l; decide

/-- Lanes and channels correspond one to one. -/
def chanEquiv : Fin 128 ≃ Fin 128 := ⟨chan, lane, lane_chan, chan_lane⟩

theorem sum_chan {M : Type*} [AddCommMonoid M] (f : Fin 128 → M) : ∑ l, f (chan l) = ∑ c, f c :=
  Equiv.sum_comp chanEquiv f

theorem pay7_apply (l c : Fin 128) : k0_pay7 (F := Ideal) (ix2 l c) = if c = chan l then 1 else 0 := by
  pointwise [k0_pay7]
  have : ∀ l c : Fin 128, (BitVec.setWidth 32
        (IntOp.cmpi CmpIPredicate.eq (BitVec.ofNat 32 c.val)
          (Scalar.select (IntOp.cmpi CmpIPredicate.slt (BitVec.ofNat 32 l.val) 64#32)
            (IntOp.muli (2#32) (BitVec.ofNat 32 l.val)) (IntOp.subi (IntOp.muli (2#32) (BitVec.ofNat 32 l.val)) 127#32))))
      = if c = chan l then 1#32 else 0#32 := by
    decide +kernel
  rw [this l c]
  split
  · show (((1#32 : BitVec 32).toInt : ℝ) : EReal) = 1
    norm_num
  · show (((0#32 : BitVec 32).toInt : ℝ) : EReal) = 0
    norm_num

theorem pay8_apply (c : Fin 128) (j : Fin 128) :
    k0_pay8 (F := Ideal) (ix2 c j)
      = if c.val = 2 * j.val then 1 else if c.val = 2 * j.val + 1 then Ideal.ofBits .f32 0x41800000#32 else 0 := by
  pointwise [k0_pay8]
  have h1 : ∀ c j : Fin 128, IntOp.cmpi CmpIPredicate.eq (BitVec.ofNat 32 c.val) (IntOp.muli (2#32) (BitVec.ofNat 32 j.val))
      = if c.val = 2 * j.val then 1#1 else 0#1 := by decide +kernel
  have h2 : ∀ c j : Fin 128, IntOp.cmpi CmpIPredicate.eq (BitVec.ofNat 32 c.val)
        (IntOp.addi (IntOp.muli (2#32) (BitVec.ofNat 32 j.val)) 1#32)
      = if c.val = 2 * j.val + 1 then 1#1 else 0#1 := by decide +kernel
  rw [h1, h2]
  split <;> [rfl; (split <;> rfl)]

/-- A one-hot sum over channels picks the lane's channel. -/
theorem sum_onehot (f : Fin 128 → EReal) (l : Fin 128) :
    ∑ c, f c * (if c = chan l then 1 else 0) = f (chan l) := by
  rw [Finset.sum_eq_single (chan l)]
  · simp
  · intro b _ hb; simp [hb]
  · simp

theorem sum_onehot' (f : Fin 128 → EReal) (l : Fin 128) :
    ∑ c, (if c = chan l then 1 else 0) * f c = f (chan l) := by
  rw [← sum_onehot f l]; exact Finset.sum_congr rfl fun _ _ => mul_comm _ _

/-- A product with the packing matrix adds the even channel and sixteen times the odd one. -/
theorem sum_pack (f : Fin 128 → EReal) (j : Fin 64) :
    ∑ c : Fin 128, f c * (if c.val = 2 * j.val then 1 else if c.val = 2 * j.val + 1 then Ideal.ofBits .f32 0x41800000#32 else 0)
      = f ⟨2 * j.val, by omega⟩ + f ⟨2 * j.val + 1, by omega⟩ * Ideal.ofBits .f32 0x41800000#32 := by
  rw [Finset.sum_eq_add (⟨2 * j.val, by omega⟩ : Fin 128) ⟨2 * j.val + 1, by omega⟩]
  · simp
  · simp [Fin.ext_iff]
  · rintro c - ⟨h1, h2⟩
    have h1' : c.val ≠ 2 * j.val := fun h => h1 (Fin.ext h)
    have h2' : c.val ≠ 2 * j.val + 1 := fun h => h2 (Fin.ext h)
    simp [h1', h2']
  · simp
  · simp

end Cert.Proof
-- ==== Proof.Arith.lean ====
/- The arithmetic the equation rests on: codes are integers from 0 to 15, the shifted score, greatest elements and sums in parts. -/
module

public import proofs.«01_k».proof.Proof.Spec

@[expose] public section

noncomputable section

namespace Cert.Proof

open Idealize.ShloMosaic

theorem ofBits_15 : Ideal.ofBits .f32 0x41700000#32 = ((15 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_negTop : Ideal.ofBits .f32 0xFF800000#32 = ⊥ := by
  simp [Ideal.ofBits, Ideal.ieee]
theorem ofBits_2 : Ideal.ofBits .f32 0x40000000#32 = ((2 : ℝ) : EReal) := by
  simp [Ideal.ofBits, Ideal.ieee, -EReal.coe_mul]; norm_num

/-- A code is an integer from 0 to 15. -/
theorem qcodeOf_nat (z s x : EReal) : ∃ n : ℕ, n < 16 ∧ qcodeOf z s x = ((n : ℝ) : EReal) := by
  unfold qcodeOf
  rw [ofBits_15]
  generalize Ideal.div (x - z) s = y
  induction y using EReal.rec with
  | bot => exact ⟨0, by norm_num, by
      show min _ (max 0 (⊥ : EReal)) = _
      rw [max_eq_left bot_le, min_eq_right (by norm_num)]; simp⟩
  | top => exact ⟨15, by norm_num, by
      show min _ (max 0 (⊤ : EReal)) = _
      rw [max_eq_right le_top, min_eq_left le_top]; norm_num⟩
  | coe r =>
    rw [Ideal.liftRound_coe]
    generalize Ideal.roundHalfEven r = k
    refine ⟨(min 15 (max 0 k)).toNat, by omega, ?_⟩
    have h : ((min 15 (max 0 k)).toNat : ℤ) = min 15 (max 0 k) := Int.toNat_of_nonneg (by omega)
    have h' : (((min 15 (max 0 k)).toNat : ℕ) : ℝ) = min 15 (max 0 (k : ℝ)) := by
      have := congrArg (Int.cast (R := ℝ)) h
      push_cast at this ⊢
      exact this
    rw [h']
    have hm : Monotone ((↑) : ℝ → EReal) := EReal.coe_strictMono.monotone
    rw [hm.map_min, hm.map_max]; rfl

theorem fptosi_nat (n : ℕ) (h : n < 2 ^ 31) : Ideal.fptosi 32 ((n : ℝ) : EReal) = BitVec.ofNat 32 n := by
  unfold Ideal.fptosi
  rw [Ideal.toIntClamped_coe]
  have h0 : (0 : ℝ) ≤ n := Nat.cast_nonneg n
  rw [if_pos h0, Int.floor_natCast]
  have : max (-((2 ^ (32 - 1) : ℕ) : ℤ)) (min (((2 ^ (32 - 1) : ℕ) : ℤ) - 1) (n : ℤ)) = (n : ℤ) := by
    norm_num
    norm_num at h
    omega
  rw [this, BitVec.ofInt_natCast]

/-- The kernel's packed byte: the low code plus sixteen times the high code. -/
theorem packByte_eq (z s x z' s' x' : EReal) :
    (Ideal.fptosi 32 (qcodeOf z s x + qcodeOf z' s' x' * Ideal.ofBits .f32 0x41800000#32)).setWidth 8
      = packByte (qcodeOf z s x) (qcodeOf z' s' x') := by
  obtain ⟨a, ha, ea⟩ := qcodeOf_nat z s x
  obtain ⟨b, hb, eb⟩ := qcodeOf_nat z' s' x'
  unfold packByte
  rw [ea, eb, ofBits_16, ← EReal.coe_mul, ← EReal.coe_add]
  have : ((a : ℝ) + (b : ℝ) * 16) = ((a + b * 16 : ℕ) : ℝ) := by push_cast; ring
  rw [this, fptosi_nat _ (by omega), fptosi_nat _ (by omega), fptosi_nat _ (by omega)]
  interval_cases a <;> interval_cases b <;> rfl

/-- A greatest element by folding. -/
theorem fold_max_eq {n : ℕ} (f : Fin n → EReal) :
    Finset.univ.fold max (Ideal.ofBits .f32 0xFF800000#32) f = Finset.univ.sup f := by
  rw [ofBits_negTop]; rfl

/-- The score plus the three rows that hold `-m` is the score less `m`. -/
theorem shift_eq (s m : EReal) : s + (-m + (-(m - m) + -((m - m) - (m - m)))) = s - m := by
  induction m using EReal.rec with
  | bot => simp [sub_eq_add_neg]
  | top => simp [sub_eq_add_neg]
  | coe r =>
    have : ((r : EReal) - r) = 0 := by rw [← EReal.coe_sub, sub_self]; rfl
    rw [this]; simp [sub_eq_add_neg]

theorem pow_two (x : EReal) : Ideal.pow ((2 : ℝ) : EReal) x = Ideal.exp2 x := by
  induction x using EReal.rec with
  | bot =>
    show (if (2 : ℝ) < 0 then (⊥ : EReal) else if 1 < (2 : ℝ) then 0 else if (2 : ℝ) = 1 then 1 else ⊤) = 0
    norm_num
  | top =>
    show (if (2 : ℝ) < 0 then (⊥ : EReal) else if 1 < (2 : ℝ) then ⊤ else if (2 : ℝ) = 1 then 1 else 0) = ⊤
    norm_num
  | coe r => rfl

/-- A sum in three parts. -/
theorem sum_three {M : Type*} [AddCommMonoid M] (a b c n : ℕ) (hn : n = a + b + c) (f : Fin n → M) :
    ∑ t, f t = (∑ t : Fin a, f ⟨t.val, by omega⟩) + (∑ t : Fin b, f ⟨a + t.val, by omega⟩)
      + ∑ t : Fin c, f ⟨a + b + t.val, by omega⟩ := by
  subst hn
  rw [Fin.sum_univ_add, Fin.sum_univ_add]
  rfl

/-- A sum over all keys, in its three parts. -/
theorem sum_keys {M : Type*} [AddCommMonoid M] (f : Fin 8320 → M) :
    ∑ t, f t = (∑ t : Fin 8064, f ⟨t.val, by omega⟩) + (∑ t : Fin 128, f ⟨8064 + t.val, by omega⟩)
      + ∑ t : Fin 128, f ⟨8192 + t.val, by omega⟩ :=
  sum_three 8064 128 128 8320 (by norm_num) f

/-- A greatest element over all keys, in its three parts. -/
theorem sup_keys (f : Fin 8320 → EReal) :
    Finset.univ.sup f = max (Finset.univ.sup fun t : Fin 8064 => f ⟨t.val, by omega⟩)
      (max (Finset.univ.sup fun t : Fin 128 => f ⟨8064 + t.val, by omega⟩)
        (Finset.univ.sup fun t : Fin 128 => f ⟨8192 + t.val, by omega⟩)) := by
  apply eq_of_forall_ge_iff
  intro b
  simp only [Finset.sup_le_iff, Finset.mem_univ, true_implies, max_le_iff]
  constructor
  · intro h; exact ⟨fun t => h _, fun t => h _, fun t => h _⟩
  · rintro ⟨h1, h2, h3⟩ t
    by_cases a : t.val < 8064
    · exact h1 ⟨t.val, a⟩
    by_cases a2 : t.val < 8192
    · have := h2 ⟨t.val - 8064, by omega⟩
      rwa [show (⟨8064 + (t.val - 8064), by omega⟩ : Fin 8320) = t from Fin.ext (by simp; omega)] at this
    · have := h3 ⟨t.val - 8192, by omega⟩
      rwa [show (⟨8192 + (t.val - 8192), by omega⟩ : Fin 8320) = t from Fin.ext (by simp; omega)] at this

/-- A sum over `n · m` rows, as `n` blocks of `m`. -/
theorem sum_blocks {M : Type*} [AddCommMonoid M] (n m : ℕ) (f : ℕ → M) :
    ∑ j : Fin n, ∑ t : Fin m, f (m * j.val + t.val) = ∑ t : Fin (n * m), f t.val := by
  rw [← Finset.sum_product', Finset.univ_product_univ]
  refine Fintype.sum_equiv finProdFinEquiv _ _ ?_
  rintro ⟨j, t⟩
  simp [finProdFinEquiv, Nat.add_comm]

/-- A greatest element over `n · m` rows, as `n` blocks of `m`. -/
theorem sup_blocks (n m : ℕ) (f : ℕ → EReal) :
    (Finset.univ.sup fun j : Fin n => Finset.univ.sup fun t : Fin m => f (m * j.val + t.val))
      = Finset.univ.sup fun t : Fin (n * m) => f t.val := by
  apply eq_of_forall_ge_iff
  intro b
  simp only [Finset.sup_le_iff, Finset.mem_univ, true_implies]
  constructor
  · intro h t
    have := h (finProdFinEquiv.symm t).1 (finProdFinEquiv.symm t).2
    have e : m * (finProdFinEquiv.symm t).1.val + (finProdFinEquiv.symm t).2.val = t.val := by
      have := congrArg Fin.val (finProdFinEquiv.apply_symm_apply t)
      simp only [finProdFinEquiv, Equiv.coe_fn_mk] at this
      simp only [finProdFinEquiv]
      omega
    rwa [e] at this
  · intro h j t
    have := h (finProdFinEquiv (j, t))
    have e : (finProdFinEquiv (j, t)).val = m * j.val + t.val := by simp [finProdFinEquiv, Nat.add_comm]
    rwa [e] at this

end Cert.Proof
-- ==== Proof.Quant.lean ====
/- The kernel's quantiser on one block of new keys and values: scales, zero points, codes, packed bytes and what the codes read back as. -/
module

public import proofs.«01_k».proof.Proof.Chunk
public import proofs.«01_k».proof.Proof.Perm
public import proofs.«01_k».proof.Proof.Arith

@[expose] public section

noncomputable section

namespace Cert.Proof

open Idealize.ShloMosaic Idealize.ShloMosaic.Pointwise Cert.KernelIdeal Cert.KernelIdeal.Gen

variable [Cert.KernelIdeal.Facts]

theorem block_index (t : Fin 128) : (⟨t.val / 32 * 32 + t.val % 32, by omega⟩ : Fin 128) = t := Fin.ext (by simp; omega)

section Keys
variable (h : Head) (w : Vec Ideal S1x128x128 .f32) (hw : ∀ s c, w (ix3 0 s c) = h.kn s c)
include hw

theorem pay14_apply (g : Fin 4) (c : Fin 128) : k0_pay14 w (ix2 g c) = h.kzero g c := by
  pointwise [k0_pay14, k0_pay13]
  simp only [hw]
  rfl

theorem pay15_apply (g : Fin 4) (c : Fin 128) : k0_pay15 w (ix2 g c) = h.kscale g c := by
  pointwise [k0_pay15, k0_pay13]
  simp only [hw, pay14_apply h w hw]
  rfl

theorem pay18_apply (t c : Fin 128) :
    k0_pay18 (k0_pay13 w) (k0_pay15 w) (k0_pay17 w) (ix3 ⟨t.val / 32, by omega⟩ ⟨t.val % 32, by omega⟩ c) = h.kcode t c := by
  pointwise [k0_pay18, k0_pay17, k0_pay13, k0_pay16]
  simp only [hw, pay14_apply h w hw, pay15_apply h w hw, block_index]
  rfl

theorem pay19_apply (t c : Fin 128) : k0_pay19 (k0_pay13 w) (k0_pay15 w) (k0_pay16 w) (k0_pay17 w) (ix2 t c) = h.keyNew t c := by
  pointwise [k0_pay19, k0_pay16]
  simp only [pay14_apply h w hw, pay15_apply h w hw, pay18_apply h w hw]
  rfl

/-- The new keys, permuted. -/
theorem pay34_apply (t l : Fin 128) :
    k0_pay34 k0_pay7 (k0_pay19 (k0_pay13 w) (k0_pay15 w) (k0_pay16 w) (k0_pay17 w)) (ix2 t l) = h.keyNew t (chan l) := by
  pointwise [k0_pay34]
  simp only [pay19_apply h w hw, pay7_apply]
  exact sum_onehot _ l

/-- The packed bytes of the new keys. -/
theorem pay20_apply (t : Fin 128) (j : Fin 64) :
    k0_pay20 k0_pay8 (k0_pay13 w) (k0_pay15 w) (k0_pay17 w) (ix4 0 0 t j) = h.kbyte t j := by
  pointwise [k0_pay20]
  simp only [pay18_apply h w hw, pay8_apply]
  rw [sum_pack (fun c => h.kcode t c) j]
  exact packByte_eq _ _ _ _ _ _

theorem pay21_apply (g : Fin 4) (c : Fin 128) : k0_pay21 (k0_pay15 w) (ix4 0 0 g c) = h.kscale g c := by
  pointwise [k0_pay21]
  exact pay15_apply h w hw g c

theorem pay22_apply (g : Fin 4) (c : Fin 128) : k0_pay22 (k0_pay16 w) (ix4 0 0 g c) = h.kzero g c := by
  pointwise [k0_pay22, k0_pay16]
  exact pay14_apply h w hw g c

end Keys

section Values
variable (h : Head) (w : Vec Ideal S1x128x128 .f32) (hw : ∀ s c, w (ix3 0 s c) = h.vn s c)
include hw

theorem pay24_apply (g : Fin 4) (t : Fin 128) : k0_pay24 w (ix2 g t) = h.vzero t g := by
  pointwise [k0_pay24, k0_pay23]
  simp only [hw]
  rfl

theorem pay23_apply (t c : Fin 128) :
    k0_pay23 w (ix3 ⟨c.val / 32, by omega⟩ ⟨c.val % 32, by omega⟩ t) = h.vn t c := by
  pointwise [k0_pay23]
  simp only [hw, block_index]

theorem pay25_apply (g : Fin 4) (t : Fin 128) : k0_pay25 (k0_pay23 w) (k0_pay24 w) (ix2 g t) = h.vscale t g := by
  pointwise [k0_pay25, k0_pay23]
  simp only [hw, pay24_apply h w hw]
  rfl

theorem pay27_apply (t c : Fin 128) :
    k0_pay27 (k0_pay23 w) (k0_pay24 w) (ix3 ⟨c.val / 32, by omega⟩ ⟨c.val % 32, by omega⟩ t) = h.vcode t c := by
  pointwise [k0_pay27, k0_pay26]
  simp only [pay23_apply h w hw, pay24_apply h w hw, pay25_apply h w hw]
  rfl

theorem pay28_apply (t c : Fin 128) : k0_pay28 (k0_pay23 w) (k0_pay24 w) (ix2 c t) = h.valNew t c := by
  pointwise [k0_pay28, k0_pay26]
  simp only [pay24_apply h w hw, pay25_apply h w hw, pay27_apply h w hw]
  rfl

/-- The new values, permuted and transposed. -/
theorem pay35_apply (l t : Fin 128) : k0_pay35 k0_pay7 (k0_pay28 (k0_pay23 w) (k0_pay24 w)) (ix2 l t) = h.valNew t (chan l) := by
  pointwise [k0_pay35]
  simp only [pay28_apply h w hw, pay7_apply]
  exact sum_onehot' (fun c => h.valNew t c) l

/-- The packed bytes of the new values. -/
theorem pay29_apply (t : Fin 128) (j : Fin 64) : k0_pay29 k0_pay8 (k0_pay23 w) (k0_pay24 w) (ix4 0 0 t j) = h.vbyte t j := by
  pointwise [k0_pay29]
  simp only [pay27_apply h w hw, pay8_apply]
  rw [sum_pack (fun c => h.vcode t c) j]
  exact packByte_eq _ _ _ _ _ _

theorem pay32_apply (t : Fin 128) (g : Fin 4) : k0_pay32 (k0_pay31 (k0_pay23 w) (k0_pay24 w)) (ix4 0 0 t g) = h.vscale t g := by
  pointwise [k0_pay32, k0_pay31, k0_pay30]
  simp only [pay25_apply h w hw]

theorem pay33_apply (t : Fin 128) (g : Fin 4) : k0_pay33 (k0_pay30 (k0_pay23 w) (k0_pay24 w)) (ix4 0 0 t g) = h.vzero t g := by
  pointwise [k0_pay33, k0_pay30, k0_pay26]
  simp only [pay24_apply h w hw]

end Values

end Cert.Proof
-- ==== Proof.Unpack.lean ====
/- The kernel's unpacking: a column of four-byte words, its low halves beside its high halves, is the codes with the even channels first. -/
module

public import proofs.«01_k».proof.Proof.Perm
public import Idealize.ShloMosaic.Lib.BitcastFour

@[expose] public section

noncomputable section

namespace Cert.Proof

open Idealize.ShloMosaic Idealize.ShloMosaic.Pointwise Cert.KernelIdeal Cert.KernelIdeal.Gen

variable [Cert.KernelIdeal.Facts]

/-- Words read as bytes, at rank 2: bit `q` of the byte at row `p` is a bit of the word at row `p / 4`. -/
theorem bitcast_32_8_getLsbD_ix2 {R r n : ℕ} (x : (⟨2, ![r, n]⟩ : Shape).Idx → BitVec 32)
    (h : (⟨2, ![r, n]⟩ : Shape).Bitcasts 32 ⟨2, ![R, n]⟩ 8) (p : Fin R) (l : Fin n) (q : ℕ) (hq : q < 8) (a : Fin r)
    (ha : a.val = p.val / 4) :
    (bitcast ⟨2, ![R, n]⟩ 8 x h (ix2 p l)).getLsbD q = (x (ix2 a l)).getLsbD (8 * (p.val % 4) + q) := by
  rw [bitcast_getLsbD x h _ q hq (by decide)]
  have hr : (⟨2, ![R, n]⟩ : Shape).row (ix2 p l) = p.val := rfl
  rw [show ((⟨2, ![R, n]⟩ : Shape).row (ix2 p l) * 8 + q) % 32 = 8 * (p.val % 4) + q by rw [hr]; omega]
  congr 2
  funext c
  match c with
  | ⟨0, _⟩ =>
    refine Fin.ext ((h.srcIdx_row _ _ _ ⟨0, Nat.zero_lt_two⟩ rfl).trans ?_)
    show ((⟨2, ![R, n]⟩ : Shape).row (ix2 p l) * 8 + q) / 32 = a.val
    rw [hr]; omega
  | ⟨1, _⟩ => exact Fin.ext (h.srcIdx_other _ _ _ ⟨1, Nat.one_lt_two⟩ (by show ¬ 1 + 2 = 2; omega))

/-- Bytes read as words, at rank 2. -/
theorem bitcast_8_32_bit {R r n : ℕ} (x : (⟨2, ![R, n]⟩ : Shape).Idx → BitVec 8)
    (h : (⟨2, ![R, n]⟩ : Shape).Bitcasts 8 ⟨2, ![r, n]⟩ 32) (a : Fin r) (l : Fin n) (q : ℕ) (hq : q < 32) (p : Fin R)
    (hp : p.val = 4 * a.val + q / 8) :
    (bitcast ⟨2, ![r, n]⟩ 32 x h (ix2 a l)).getLsbD q = (x (ix2 p l)).getLsbD (q % 8) :=
  bitcast_8_32_getLsbD_ix2 x h a l q hq p hp

theorem mask_bit : ∀ i < 4, ∀ q < 8, (252645135#32).getLsbD (8 * i + q) = decide (q < 4) := by decide

/-- The half of a byte: the low four bits for the first 64 lanes, the high four for the others. -/
def half (w : BitVec 8) (l : ℕ) : BitVec 8 := if l < 64 then w &&& 15#8 else (w >>> 4) &&& 15#8

theorem half_bit : ∀ q < 8, (15#8).getLsbD q = decide (q < 4) := by decide

theorem unpack_of {R r : ℕ} (x : (⟨2, ![R, 64]⟩ : Shape).Idx → BitVec 8) (h1 : (⟨2, ![R, 64]⟩ : Shape).Bitcasts 8 ⟨2, ![r, 64]⟩ 32)
    (y : (⟨2, ![r, 128]⟩ : Shape).Idx → BitVec 32) (h2 : (⟨2, ![r, 128]⟩ : Shape).Bitcasts 32 ⟨2, ![R, 128]⟩ 8) (p : Fin R) (l : Fin 128)
    (a : Fin r) (ha : a.val = p.val / 4)
    (hy : y (ix2 a l) = IntOp.andi
      (if h : l.val < 64 then bitcast ⟨2, ![r, 64]⟩ 32 x h1 (ix2 a ⟨l.val, h⟩)
       else IntOp.shrui ArithUnit.vector (bitcast ⟨2, ![r, 64]⟩ 32 x h1 (ix2 a ⟨l.val - 64, by omega⟩)) 4#32) 252645135#32) :
    bitcast ⟨2, ![R, 128]⟩ 8 y h2 (ix2 p l) = half (x (ix2 p ⟨l.val % 64, by omega⟩)) l.val := by
  apply BitVec.eq_of_getLsbD_eq
  intro q hq
  rw [bitcast_32_8_getLsbD_ix2 y h2 p l q hq a ha, hy]
  unfold IntOp.andi half
  rw [BitVec.getLsbD_and, mask_bit _ (by omega) q hq]
  by_cases h : l.val < 64
  · rw [dif_pos h, if_pos h, BitVec.getLsbD_and, half_bit q hq,
      bitcast_8_32_bit x h1 a ⟨l.val, h⟩ (8 * (p.val % 4) + q) (by omega) p (by omega)]
    congr 2
    · congr 3; omega
    · omega
  · rw [dif_neg h, if_neg h, BitVec.getLsbD_and, half_bit q hq]
    unfold IntOp.shrui
    rw [if_pos (by decide), BitVec.ushiftRight_eq', BitVec.getLsbD_ushiftRight, BitVec.getLsbD_ushiftRight]
    by_cases h4 : q < 4
    · rw [show (4#32).toNat + (8 * (p.val % 4) + q) = 4 + (8 * (p.val % 4) + q) from rfl,
        bitcast_8_32_bit x h1 a ⟨l.val - 64, by omega⟩ (4 + (8 * (p.val % 4) + q)) (by omega) p (by omega)]
      congr 2
      · congr 3; omega
      · omega
    · simp [h4]

/-- The half's value is the code of its channel. -/
theorem half_toInt (w : BitVec 8) (l : Fin 128) : (((half w l.val).toInt : ℝ) : EReal) = nib w (chan l).val := by
  have key : ∀ w : BitVec 8, (w &&& 15#8).toInt = ((w.toNat % 16 : ℕ) : ℤ) ∧ ((w >>> 4) &&& 15#8).toInt = ((w.toNat / 16 : ℕ) : ℤ) := by
    decide +kernel
  unfold half nib chan
  by_cases h : l.val < 64
  · have : (chan l).val % 2 = 0 := by unfold chan; simp [h]
    unfold chan at this
    rw [if_pos h, (key w).1, if_pos this, Int.cast_natCast]
  · have : ¬ (chan l).val % 2 = 0 := by unfold chan; simp [h]; omega
    unfold chan at this
    rw [if_neg h, (key w).2, if_neg this, Int.cast_natCast]

theorem chan_div (l : Fin 128) : (chan l).val / 2 = l.val % 64 := by
  revert l; decide

/-- The codes of 256 tokens. -/
theorem unpack256 (x : IVec S256x64 8) (t : Fin 256) (l : Fin 128) :
    (FloatOps.sitofp (F := Ideal) FTy.bf16 (bitcast S256x128 8 (andi (concatenate S64x128 1
      [⟨S64x64, bitcast S64x64 32 x bitcasts_S256x64_w8_S64x64_w32⟩,
       ⟨S64x64, shrui (bitcast S64x64 32 x bitcasts_S256x64_w8_S64x64_w32) (broadcast S64x64 4#32)⟩]
      concatenates_S64x64_S64x64_S64x128_d1) (broadcast S64x128 252645135#32)) bitcasts_S64x128_w32_S256x128_w8 (ix2 t l)) : EReal)
      = nib (x (ix2 t ⟨(chan l).val / 2, by omega⟩)) (chan l).val := by
  rw [unpack_of x bitcasts_S256x64_w8_S64x64_w32 _ bitcasts_S64x128_w32_S256x128_w8 t l ⟨t.val / 4, by omega⟩ rfl
    (by pointwise [])]
  rw [← half_toInt]
  simp only [chan_div]
  rfl

/-- The codes of 128 tokens. -/
theorem unpack128 (x : IVec S128x64 8) (t : Fin 128) (l : Fin 128) :
    (FloatOps.sitofp (F := Ideal) FTy.bf16 (bitcast S128x128 8 (andi (concatenate S32x128 1
      [⟨S32x64, bitcast S32x64 32 x bitcasts_S128x64_w8_S32x64_w32⟩,
       ⟨S32x64, shrui (bitcast S32x64 32 x bitcasts_S128x64_w8_S32x64_w32) (broadcast S32x64 4#32)⟩]
      concatenates_S32x64_S32x64_S32x128_d1) (broadcast S32x128 252645135#32)) bitcasts_S32x128_w32_S128x128_w8 (ix2 t l)) : EReal)
      = nib (x (ix2 t ⟨(chan l).val / 2, by omega⟩)) (chan l).val := by
  rw [unpack_of x bitcasts_S128x64_w8_S32x64_w32 _ bitcasts_S32x128_w32_S128x128_w8 t l ⟨t.val / 4, by omega⟩ rfl
    (by pointwise [])]
  rw [← half_toInt]
  simp only [chan_div]
  rfl

end Cert.Proof
-- ==== Proof.Scores.lean ====
/- What a chunk of 256 cached tokens contributes: its scores, its part of the numerator and of the denominator, and the sums over the chunks. -/
module

public import proofs.«01_k».proof.Proof.Chunk
public import proofs.«01_k».proof.Proof.Perm
public import proofs.«01_k».proof.Proof.Arith
public import proofs.«01_k».proof.Proof.Unpack

@[expose] public section

noncomputable section

namespace Cert.Proof

open Idealize.ShloMosaic Idealize.ShloMosaic.Pointwise Cert.KernelIdeal Cert.KernelIdeal.Gen

variable [Cert.KernelIdeal.Facts]

/-- What the chunks' loads hold, against the data of the pair. -/
structure Loaded (h : Head) (kl : (j : ℕ) → j < 31 → Vec Ideal S1x1x256x64 .i8) (ks kz : (n : ℕ) → n < 252 → Vec Ideal S1x128 .f32)
    (vl : (j : ℕ) → j < 31 → Vec Ideal S1x1x256x64 .i8) (sl zl : (j : ℕ) → j < 31 → Vec Ideal S1x1x256x4 .bf16) : Prop where
  hkl : ∀ j hj (t : Fin 256) (l : Fin 64), kl j hj (ix4 0 0 t l) = h.kc ⟨256 * j + t.val, by omega⟩ l
  hks : ∀ n hn (l : Fin 128), ks n hn (ix2 0 l) = h.ks ⟨n, hn⟩ (chan l)
  hkz : ∀ n hn (l : Fin 128), kz n hn (ix2 0 l) = h.kz ⟨n, hn⟩ (chan l)
  hvl : ∀ j hj (t : Fin 256) (l : Fin 64), vl j hj (ix4 0 0 t l) = h.vc ⟨256 * j + t.val, by omega⟩ l
  hsl : ∀ j hj (t : Fin 256) (e : Fin 4), sl j hj (ix4 0 0 t e) = h.vs ⟨256 * j + t.val, by omega⟩ e
  hzl : ∀ j hj (t : Fin 256) (e : Fin 4), zl j hj (ix4 0 0 t e) = h.vz ⟨256 * j + t.val, by omega⟩ e

/-- A column of the extended queries: the query by lanes, then the three rows that hold `-m`. -/
structure Column (h : Head) (g : Fin 8) (s : Fin 128) (m : EReal) (qt : Vec Ideal S256x1024 .bf16) (r : Fin 1024) : Prop where
  hq : ∀ l : Fin 128, qt (ix2 ⟨l.val, by omega⟩ r) = h.q g s (chan l)
  h0 : qt (ix2 ⟨128, by omega⟩ r) = -m
  h1 : qt (ix2 ⟨129, by omega⟩ r) = -(m - m)
  h2 : qt (ix2 ⟨130, by omega⟩ r) = -((m - m) - (m - m))

/-- Of 128 terms the first three. -/
theorem sum_first3 (f : Fin 128 → EReal) :
    ∑ x : Fin 128, (Scalar.select (IntOp.cmpi .slt (BitVec.ofNat 32 x.val) 3#32) (f x) 0 : EReal) = f 0 + (f 1 + f 2) := by
  have e : ∀ x : Fin 128, (Scalar.select (IntOp.cmpi .slt (BitVec.ofNat 32 x.val) 3#32) (f x) 0 : EReal) = if x.val < 3 then f x else 0 := by
    intro x
    have : IntOp.cmpi .slt (BitVec.ofNat 32 x.val) 3#32 = if x.val < 3 then 1#1 else 0#1 := by
      revert x; decide
    rw [this]
    split <;> rfl
  simp only [e]
  rw [Fin.sum_univ_succ, Fin.sum_univ_succ, Fin.sum_univ_succ]
  rw [Finset.sum_eq_zero (s := Finset.univ)]
  · simp
  · intro x _
    rw [if_neg]
    simp [Fin.val_succ]

/-- The score of a key held by lanes, less `m`. -/
theorem score_eq (h : Head) (g : Fin 8) (s : Fin 128) (m : EReal) (qt : Vec Ideal S256x1024 .bf16) (r : Fin 1024)
    (hc : Column h g s m qt r) (k : Fin 128 → EReal) :
    (∑ x : Fin 128, k (chan x) * qt (ix2 ⟨x.val, by omega⟩ r))
      + ∑ x : Fin 128, (Scalar.select (IntOp.cmpi .slt (BitVec.ofNat 32 x.val) 3#32) (qt (ix2 ⟨128 + x.val, by omega⟩ r)) 0 : EReal)
      = h.dot g s k - m := by
  rw [sum_first3 fun x => qt (ix2 ⟨128 + x.val, by omega⟩ r)]
  show _ + (qt (ix2 ⟨128, _⟩ r) + (qt (ix2 ⟨129, _⟩ r) + qt (ix2 ⟨130, _⟩ r))) = _
  rw [hc.h0, hc.h1, hc.h2, shift_eq]
  congr 1
  simp only [hc.hq]
  rw [sum_chan (fun c => k c * h.q g s c)]
  exact Finset.sum_congr rfl fun c _ => mul_comm _ _

/-- Lane `l` holds the group of its channel. -/
theorem lane_group (f : Fin 4 → EReal) (l : Fin 128) :
    (if _ : l.val < 16 then f 0 else if _ : l.val - 16 < 16 then f 1 else if _ : l.val - 16 - 16 < 16 then f 2
      else if _ : l.val - 16 - 16 - 16 < 16 then f 3 else if _ : l.val - 16 - 16 - 16 - 16 < 16 then f 0
      else if _ : l.val - 16 - 16 - 16 - 16 - 16 < 16 then f 1 else if _ : l.val - 16 - 16 - 16 - 16 - 16 - 16 < 16 then f 2 else f 3)
      = f ⟨(chan l).val / 32, by omega⟩ := by
  have e : (chan l).val = if l.val < 64 then 2 * l.val else 2 * l.val - 127 := by
    unfold chan; split <;> rfl
  repeat' split
  all_goals congr 1; apply Fin.ext; simp only [e]; split <;> simp <;> omega

section
variable (h : Head) {kl : (j : ℕ) → j < 31 → Vec Ideal S1x1x256x64 .i8} {ks kz : (n : ℕ) → n < 252 → Vec Ideal S1x128 .f32}
  {vl : (j : ℕ) → j < 31 → Vec Ideal S1x1x256x64 .i8} {sl zl : (j : ℕ) → j < 31 → Vec Ideal S1x1x256x4 .bf16}
  (H : Loaded h kl ks kz vl sl zl)
include H

theorem chunkKey_apply (j : ℕ) (hj : j < 31) (t : Fin 256) (l : Fin 128) :
    k0_pay44 (kl j hj) (ks (8 * j + 0) (by omega)) (ks (8 * j + 1) (by omega)) (ks (8 * j + 2) (by omega)) (ks (8 * j + 3) (by omega)) (ks (8 * j + 4) (by omega)) (ks (8 * j + 5) (by omega)) (ks (8 * j + 6) (by omega)) (ks (8 * j + 7) (by omega)) (ix2 t l)
      = nib (h.kc ⟨256 * j + t.val, by omega⟩ ⟨(chan l).val / 2, by omega⟩) (chan l).val * h.ks ⟨(256 * j + t.val) / 32, by omega⟩ (chan l) := by
  pointwise [k0_pay44]
  rw [unpack256]
  pointwise []
  simp only [H.hks, H.hkl]
  congr 1
  repeat' split
  all_goals congr 2; omega

/-- The keys of a chunk, less the zero points' part, in one place. -/
theorem chunkScore_apply (g : Fin 8) (s : Fin 128) (m : EReal) (qt : Vec Ideal S256x1024 .bf16) (r : Fin 1024) (hc : Column h g s m qt r)
    (j : ℕ) (hj : j < 31) (t : Fin 256) :
    chunkScore kl ks kz qt j hj (ix2 t r)
      = (h.dot g s (h.keyCache ⟨256 * j + t.val, by omega⟩) - m) * Ideal.ofBits .f32 0x3E0293EE#32 := by
  have hk := chunkKey_apply h H j hj
  unfold chunkScore
  generalize k0_pay44 (kl j hj) (ks (8 * j + 0) (by omega)) (ks (8 * j + 1) (by omega)) (ks (8 * j + 2) (by omega)) (ks (8 * j + 3) (by omega)) (ks (8 * j + 4) (by omega)) (ks (8 * j + 5) (by omega)) (ks (8 * j + 6) (by omega)) (ks (8 * j + 7) (by omega)) = k at hk ⊢
  have hz : ∀ l : Fin 128, (if h : t.val < 32 then kz (8 * j + 0) (by omega) (ix2 0 l) else if h : t.val - 32 < 32 then kz (8 * j + 1) (by omega) (ix2 0 l)
      else if h : t.val - 32 - 32 < 32 then kz (8 * j + 2) (by omega) (ix2 0 l) else if h : t.val - 32 - 32 - 32 < 32 then kz (8 * j + 3) (by omega) (ix2 0 l)
      else if h : t.val - 32 - 32 - 32 - 32 < 32 then kz (8 * j + 4) (by omega) (ix2 0 l) else if h : t.val - 32 - 32 - 32 - 32 - 32 < 32 then kz (8 * j + 5) (by omega) (ix2 0 l)
      else if h : t.val - 32 - 32 - 32 - 32 - 32 - 32 < 32 then kz (8 * j + 6) (by omega) (ix2 0 l) else kz (8 * j + 7) (by omega) (ix2 0 l))
      = h.kz ⟨(256 * j + t.val) / 32, by omega⟩ (chan l) := by
    intro l
    simp only [H.hkz]
    repeat' split
    all_goals congr 2; omega
  pointwise [k0_pay45]
  simp only [Nat.add_zero] at hz
  simp only [hz, hk]
  exact congrArg (· * Ideal.ofBits .f32 0x3E0293EE#32) (score_eq h g s m qt r hc (h.keyCache ⟨256 * j + t.val, by omega⟩))

theorem chunkSum_apply (g : Fin 8) (s : Fin 128) (m : EReal) (qt : Vec Ideal S256x1024 .bf16) (r : Fin 1024) (hc : Column h g s m qt r)
    (j : ℕ) (hj : j < 31) (e : Fin 8) :
    chunkSum kl ks kz qt j hj (ix2 e r)
      = ∑ x : Fin 32, Ideal.exp2 ((h.dot g s (h.keyCache ⟨256 * j + (x.val * 8 + e.val), by omega⟩) - m) * Ideal.ofBits .f32 0x3E0293EE#32) := by
  unfold chunkSum
  have hs := chunkScore_apply h H g s m qt r hc j hj
  generalize chunkScore kl ks kz qt j hj = z at hs ⊢
  pointwise [k0_pay47, k0_pay46]
  simp only [hs]
  rfl

theorem chunkVal_apply (j : ℕ) (hj : j < 31) (t : Fin 256) (l : Fin 128) :
    k0_pay48 (vl j hj) (sl j hj) (zl j hj) (ix2 t l) = h.valCache ⟨256 * j + t.val, by omega⟩ (chan l) := by
  pointwise [k0_pay48]
  rw [unpack256]
  pointwise []
  simp only [H.hvl, H.hsl, H.hzl]
  rw [lane_group (h.vs _), lane_group (h.vz _)]
  rfl

theorem chunkAcc_apply (g : Fin 8) (s : Fin 128) (m : EReal) (qt : Vec Ideal S256x1024 .bf16) (r : Fin 1024) (hc : Column h g s m qt r)
    (j : ℕ) (hj : j < 31) (l : Fin 128) :
    chunkAcc kl ks kz vl sl zl qt j hj (ix2 l r)
      = ∑ x : Fin 256, Ideal.exp2 ((h.dot g s (h.keyCache ⟨256 * j + x.val, by omega⟩) - m) * Ideal.ofBits .f32 0x3E0293EE#32)
          * h.valCache ⟨256 * j + x.val, by omega⟩ (chan l) := by
  unfold chunkAcc
  have hs := chunkScore_apply h H g s m qt r hc j hj
  have hv := chunkVal_apply h H j hj
  generalize chunkScore kl ks kz qt j hj = z at hs ⊢
  generalize k0_pay48 (vl j hj) (sl j hj) (zl j hj) = v at hv ⊢
  pointwise [k0_pay49, k0_pay46]
  simp only [hs, hv]
  exact Finset.sum_congr rfl fun x _ => mul_comm _ _

/-- The weight of cached token `n` against the reference point `m`. -/
def cacheWeight (h : Head) (g : Fin 8) (s : Fin 128) (m : EReal) (n : ℕ) : EReal :=
  if hn : n < 8064 then Ideal.exp2 ((h.dot g s (h.keyCache ⟨n, hn⟩) - m) * Ideal.ofBits .f32 0x3E0293EE#32) else 0
/-- Channel `c` of cached value `n`. -/
def cacheVal (h : Head) (c : Fin 128) (n : ℕ) : EReal := if hn : n < 8064 then h.valCache ⟨n, hn⟩ c else 0

theorem accAt_range (g : Fin 8) (s : Fin 128) (m : EReal) (qt : Vec Ideal S256x1024 .bf16) (r : Fin 1024) (hc : Column h g s m qt r) (l : Fin 128) :
    ∀ (j : ℕ) (hj : j < 31), accAt kl ks kz vl sl zl qt j hj (ix2 l r)
      = ∑ i ∈ Finset.range (j + 1), ∑ x : Fin 256, cacheWeight h g s m (256 * i + x.val) * cacheVal h (chan l) (256 * i + x.val) := by
  have e : ∀ (j : ℕ) (hj : j < 31), chunkAcc kl ks kz vl sl zl qt j hj (ix2 l r)
      = ∑ x : Fin 256, cacheWeight h g s m (256 * j + x.val) * cacheVal h (chan l) (256 * j + x.val) := by
    intro j hj
    rw [chunkAcc_apply h H g s m qt r hc j hj l]
    refine Finset.sum_congr rfl fun x _ => ?_
    rw [cacheWeight, cacheVal, dif_pos (by omega), dif_pos (by omega)]
  intro j
  induction j with
  | zero => intro hj; rw [Finset.sum_range_one]; exact e 0 hj
  | succ j ih =>
    intro hj
    rw [Finset.sum_range_succ, ← ih (by omega), ← e (j + 1) hj]
    rfl

/-- The numerator after the chunks: the sum over the tokens they hold. -/
theorem accAt_apply (g : Fin 8) (s : Fin 128) (m : EReal) (qt : Vec Ideal S256x1024 .bf16) (r : Fin 1024) (hc : Column h g s m qt r) (l : Fin 128) :
    accAt kl ks kz vl sl zl qt 30 (by omega) (ix2 l r) = ∑ t : Fin 7936, cacheWeight h g s m t.val * cacheVal h (chan l) t.val := by
  rw [accAt_range h H g s m qt r hc l, Finset.sum_range]
  exact sum_blocks 31 256 fun n => cacheWeight h g s m n * cacheVal h (chan l) n

theorem sumAt_range (g : Fin 8) (s : Fin 128) (m : EReal) (qt : Vec Ideal S256x1024 .bf16) (r : Fin 1024) (hc : Column h g s m qt r) :
    ∀ (j : ℕ) (hj : j < 31), ∑ e : Fin 8, sumAt kl ks kz qt j hj (ix2 e r)
      = ∑ i ∈ Finset.range (j + 1), ∑ x : Fin 256, cacheWeight h g s m (256 * i + x.val) := by
  have e : ∀ (j : ℕ) (hj : j < 31), ∑ e : Fin 8, chunkSum kl ks kz qt j hj (ix2 e r)
      = ∑ x : Fin 256, cacheWeight h g s m (256 * j + x.val) := by
    intro j hj
    rw [← sum_blocks 32 8 fun n => cacheWeight h g s m (256 * j + n), Finset.sum_comm]
    refine Finset.sum_congr rfl fun e _ => ?_
    rw [chunkSum_apply h H g s m qt r hc j hj e]
    refine Finset.sum_congr rfl fun x _ => ?_
    rw [cacheWeight, dif_pos (by omega)]
    simp only [Nat.mul_comm x.val 8]
  intro j
  induction j with
  | zero => intro hj; rw [Finset.sum_range_one]; exact e 0 hj
  | succ j ih =>
    intro hj
    rw [Finset.sum_range_succ, ← ih (by omega), ← e (j + 1) hj, ← Finset.sum_add_distrib]
    rfl

/-- The denominator after the chunks, its eight rows added: the sum over the tokens they hold. -/
theorem sumAt_apply (g : Fin 8) (s : Fin 128) (m : EReal) (qt : Vec Ideal S256x1024 .bf16) (r : Fin 1024) (hc : Column h g s m qt r) :
    ∑ e : Fin 8, sumAt kl ks kz qt 30 (by omega) (ix2 e r) = ∑ t : Fin 7936, cacheWeight h g s m t.val := by
  rw [sumAt_range h H g s m qt r hc, Finset.sum_range]
  exact sum_blocks 31 256 fun n => cacheWeight h g s m n
end

end Cert.Proof
-- ==== Proof.Final.lean ====
/- The last steps of a block: the last 128 cached tokens with the tail, the new tokens, and the quotient. -/
module

public import proofs.«01_k».proof.Proof.Scores

@[expose] public section

noncomputable section

namespace Cert.Proof

open Idealize.ShloMosaic Idealize.ShloMosaic.Pointwise Cert.KernelIdeal Cert.KernelIdeal.Gen

variable [Cert.KernelIdeal.Facts]

theorem andi_127 (r : Fin 1024) : IntOp.andi (BitVec.ofNat 32 r.val) 127#32 = BitVec.ofNat 32 (r.val % 128) := by
  apply BitVec.eq_of_toNat_eq
  unfold IntOp.andi
  simp only [BitVec.toNat_and, BitVec.toNat_ofNat]
  rw [show 127 % 2 ^ 32 = 2 ^ 7 - 1 by norm_num, Nat.and_two_pow_sub_one_eq_mod]
  have := r.isLt
  omega

theorem cmpi_sle_small (a b : ℕ) (ha : a < 128) (hb : b < 128) :
    IntOp.cmpi .sle (BitVec.ofNat 32 a) (BitVec.ofNat 32 b) = if a ≤ b then 1#1 else 0#1 := by
  unfold IntOp.cmpi
  have e : ∀ n : ℕ, n < 128 → (BitVec.ofNat 32 n).toInt = n := by
    intro n hn
    exact WordCmp.toInt_ofNat_of_lt (show n < 2 ^ (32 - 1) by omega)
  simp only [BitVec.sle, e a ha, e b hb, Nat.cast_le]
  by_cases hab : a ≤ b
  · rw [if_pos hab, decide_eq_true hab]; rfl
  · rw [if_neg hab, decide_eq_false hab]; rfl

/-- The mask of the new tokens: token `t` is seen by the query tokens from `t` on. -/
theorem pay38_apply (t : Fin 128) (r : Fin 1024) : k0_pay38 (ix2 t r) = if t.val ≤ r.val % 128 then 1#1 else 0#1 := by
  pointwise [k0_pay38]
  rw [andi_127, cmpi_sle_small _ _ t.isLt (by omega)]

theorem sum_two {M : Type*} [AddCommMonoid M] (a b n : ℕ) (hn : n = a + b) (f : Fin n → M) :
    ∑ t, f t = (∑ t : Fin a, f ⟨t.val, by omega⟩) + ∑ t : Fin b, f ⟨a + t.val, by omega⟩ := by
  subst hn
  rw [Fin.sum_univ_add]
  rfl

/-- Eight rows of `n` sums, added. -/
theorem sum_rows {M : Type*} [AddCommMonoid M] (n N : ℕ) (hN : N = n * 8) (f : Fin N → M) :
    ∑ e : Fin 8, ∑ x : Fin n, f ⟨x.val * 8 + e.val, by omega⟩ = ∑ t, f t := by
  subst hN
  have := sum_blocks n 8 fun k => if hk : k < n * 8 then f ⟨k, hk⟩ else 0
  rw [Finset.sum_comm]
  refine Eq.trans ?_ (this.trans ?_)
  · refine Finset.sum_congr rfl fun x _ => Finset.sum_congr rfl fun e _ => ?_
    rw [dif_pos (by omega)]
    congr 2
    omega
  · exact Finset.sum_congr rfl fun t _ => dif_pos t.isLt

section
variable (h : Head) (g : Fin 8) (s : Fin 128) (r : Fin 1024) (qt : Vec Ideal S256x1024 .bf16) (hc : Column h g s (h.top g s) qt r)

include hc in
/-- The probability of a new token. -/
theorem pay499_apply (hr : r.val % 128 = s.val) (kn : FVec Ideal S128x128 .bf16) (hkn : ∀ t l : Fin 128, kn (ix2 t l) = h.keyNew t (chan l)) (t : Fin 128) :
    k0_pay499 kn k0_pay38 qt (ix2 t r) = h.prob g s ⟨8192 + t.val, by omega⟩ := by
  pointwise [k0_pay499]
  simp only [hkn, pay38_apply]
  rw [score_eq h g s _ qt r hc (h.keyNew t), hr, Head.prob]
  have : h.key ⟨8192 + t.val, by omega⟩ = h.keyNew t := by
    funext c
    unfold Head.key
    rw [dif_neg (show ¬ 8192 + t.val < 8064 by omega), dif_neg (show ¬ 8192 + t.val < 8192 by omega)]
    exact congrArg (fun u => h.keyNew u c) (Fin.ext (Nat.add_sub_cancel_left ..))
  rw [this]
  by_cases ht : t.val ≤ s.val
  · rw [if_pos ht, if_pos (show 8192 + t.val ≤ 8192 + s.val by omega)]; rfl
  · rw [if_neg ht, if_neg (show ¬ 8192 + t.val ≤ 8192 + s.val by omega)]; rfl

/-- The key of row `t` of the last 256: 128 cached tokens, then the tail. -/
def lastKey (t : Fin 256) : Fin 128 → EReal :=
  if ht : t.val < 128 then h.keyCache ⟨7936 + t.val, by omega⟩ else h.kt ⟨t.val - 128, by omega⟩

variable {kl : (j : ℕ) → j < 31 → Vec Ideal S1x1x256x64 .i8} {ks kz : (n : ℕ) → n < 252 → Vec Ideal S1x128 .f32}
  {vl : (j : ℕ) → j < 31 → Vec Ideal S1x1x256x64 .i8} {sl zl : (j : ℕ) → j < 31 → Vec Ideal S1x1x256x4 .bf16}
  (H : Loaded h kl ks kz vl sl zl)
  (k7 : Vec Ideal S1x1x128x64 .i8) (hk7 : ∀ (t : Fin 128) (l : Fin 64), k7 (ix4 0 0 t l) = h.kc ⟨7936 + t.val, Nat.add_lt_add_left t.isLt 7936⟩ l)
  (v7 : Vec Ideal S1x1x128x64 .i8) (hv7 : ∀ (t : Fin 128) (l : Fin 64), v7 (ix4 0 0 t l) = h.vc ⟨7936 + t.val, Nat.add_lt_add_left t.isLt 7936⟩ l)
  (s7 : Vec Ideal S1x1x128x4 .bf16) (hs7 : ∀ (t : Fin 128) (l : Fin 4), s7 (ix4 0 0 t l) = h.vs ⟨7936 + t.val, Nat.add_lt_add_left t.isLt 7936⟩ l)
  (z7 : Vec Ideal S1x1x128x4 .bf16) (hz7 : ∀ (t : Fin 128) (l : Fin 4), z7 (ix4 0 0 t l) = h.vz ⟨7936 + t.val, Nat.add_lt_add_left t.isLt 7936⟩ l)
  (kt : FVec Ideal S128x128 .bf16) (hkt : ∀ t l : Fin 128, kt (ix2 t l) = h.kt t (chan l))
  (vt : FVec Ideal S128x128 .bf16) (hvt : ∀ l t : Fin 128, vt (ix2 l t) = h.vt t (chan l))

include H hk7 in
theorem pay485_apply (t l : Fin 128) :
    k0_pay485 k7 (ks 248 (by omega)) (ks 249 (by omega)) (ks 250 (by omega)) (ks 251 (by omega)) (ix2 t l)
      = nib (h.kc ⟨7936 + t.val, by omega⟩ ⟨(chan l).val / 2, by omega⟩) (chan l).val * h.ks ⟨(7936 + t.val) / 32, by omega⟩ (chan l) := by
  pointwise [k0_pay485]
  rw [unpack128]
  pointwise []
  simp only [H.hks, hk7]
  congr 1
  repeat' split
  all_goals congr 2; omega

/-- The codes, scales and zero points of the last 256 rows' keys. -/
abbrev lastProbs (ks kz : (n : ℕ) → n < 252 → Vec Ideal S1x128 .f32) (k7 : Vec Ideal S1x1x128x64 .i8) (kt : FVec Ideal S128x128 .bf16)
    (qt : Vec Ideal S256x1024 .bf16) : FVec Ideal S256x1024 .f32 :=
  k0_pay489 kt (k0_pay485 k7 (ks 248 (by omega)) (ks 249 (by omega)) (ks 250 (by omega)) (ks 251 (by omega)))
    (k0_pay486 (kz 248 (by omega))) (k0_pay487 (kz 249 (by omega))) (k0_pay488 (kz 250 (by omega))) (kz 251 (by omega)) qt

include H hk7 hkt hc in
theorem lastProbs_apply (t : Fin 256) : lastProbs ks kz k7 kt qt (ix2 t r) = h.weight g s (lastKey h t) := by
  have hk := pay485_apply h H k7 hk7
  unfold lastProbs
  generalize k0_pay485 k7 (ks 248 (by omega)) (ks 249 (by omega)) (ks 250 (by omega)) (ks 251 (by omega)) = k at hk ⊢
  pointwise [k0_pay489, k0_pay486, k0_pay487, k0_pay488]
  simp only [hk, hkt, H.hkz]
  unfold Head.weight
  rw [← score_eq h g s _ qt r hc (lastKey h t)]
  have e : ∀ x : Fin 128, lastKey h t (chan x) = if ht : t.val < 128 then h.keyCache ⟨7936 + t.val, by omega⟩ (chan x) else h.kt ⟨t.val - 128, by omega⟩ (chan x) := by
    intro x
    unfold lastKey
    split <;> rfl
  simp only [e]
  show FloatOps.exp2 ((_ + _) * _) = FloatOps.exp2 ((_ + _) * _)
  congr 3
  refine Finset.sum_congr rfl fun x _ => ?_
  congr 1
  by_cases ht : t.val < 128
  · rw [dif_pos ht, dif_pos ht]
    show _ + _ = nib (h.kc ⟨7936 + t.val, by omega⟩ ⟨(chan x).val / 2, by omega⟩) (chan x).val * h.ks ⟨(7936 + t.val) / 32, by omega⟩ (chan x)
      + h.kz ⟨(7936 + t.val) / 32, by omega⟩ (chan x)
    congr 1
    repeat' split
    all_goals congr 2; omega
  · rw [dif_neg ht, dif_neg ht]

include hv7 in
theorem pay492_apply (t l : Fin 128) :
    k0_pay492 v7 (ix2 t l) = nib (h.vc ⟨7936 + t.val, by omega⟩ ⟨(chan l).val / 2, by omega⟩) (chan l).val := by
  pointwise [k0_pay492]
  rw [unpack128]
  pointwise []
  simp only [hv7]

include hv7 hs7 hz7 hvt in
/-- The numerator with the last 256 rows added. -/
theorem pay497_apply (acc : FVec Ideal S128x1024 .f32) (p : FVec Ideal S256x1024 .bf16) (l : Fin 128) :
    k0_pay497 vt acc p (k0_pay492 v7) (k0_pay493 s7) (k0_pay494 s7) (k0_pay495 s7) (k0_pay496 s7) z7 (ix2 l r)
      = acc (ix2 l r) + (∑ x : Fin 128, h.valCache ⟨7936 + x.val, by omega⟩ (chan l) * p (ix2 ⟨x.val, by omega⟩ r))
        + ∑ x : Fin 128, h.vt x (chan l) * p (ix2 ⟨128 + x.val, by omega⟩ r) := by
  pointwise [k0_pay497, k0_pay494, k0_pay495, k0_pay496, k0_pay493]
  simp only [pay492_apply h v7 hv7, hs7, hz7, hvt]
  congr 2
  refine Finset.sum_congr rfl fun x _ => ?_
  rw [lane_group (h.vs _), lane_group (h.vz _)]
  rfl

/-- The probabilities and values of the cached tokens and the tail, as the sums of the kernel take them. -/
theorem cacheWeight_eq (t : Fin 8064) : cacheWeight h g s (h.top g s) t.val = h.prob g s ⟨t.val, by omega⟩ := by
  have : h.key ⟨t.val, by omega⟩ = h.keyCache t := by
    funext c
    unfold Head.key
    rw [dif_pos t.isLt]
  rw [cacheWeight, dif_pos t.isLt, Head.prob, this, if_pos (show t.val ≤ 8192 + s.val by omega)]
  rfl

theorem cacheVal_eq (c : Fin 128) (t : Fin 8064) : cacheVal h c t.val = h.val ⟨t.val, by omega⟩ c := by
  unfold cacheVal Head.val
  rw [dif_pos t.isLt, dif_pos t.isLt]

theorem lastWeight_cache (t : Fin 128) : h.weight g s (lastKey h ⟨t.val, by omega⟩) = cacheWeight h g s (h.top g s) (7936 + t.val) := by
  unfold lastKey cacheWeight
  rw [dif_pos t.isLt, dif_pos (by omega)]
  rfl

theorem lastWeight_tail (t : Fin 128) : h.weight g s (lastKey h ⟨128 + t.val, by omega⟩) = h.prob g s ⟨8064 + t.val, by omega⟩ := by
  have : h.key ⟨8064 + t.val, by omega⟩ = h.kt t := by
    funext c
    unfold Head.key
    rw [dif_neg (show ¬ 8064 + t.val < 8064 by omega), dif_pos (show 8064 + t.val < 8192 by omega)]
    exact congrArg (fun u => h.kt u c) (Fin.ext (Nat.add_sub_cancel_left ..))
  have e : lastKey h ⟨128 + t.val, by omega⟩ = h.kt t := by
    unfold lastKey
    rw [dif_neg (by simp)]
    exact congrArg h.kt (Fin.ext (Nat.add_sub_cancel_left ..))
  rw [e, Head.prob, this, if_pos (show 8064 + t.val ≤ 8192 + s.val by omega)]

theorem val_tail (c t : Fin 128) : h.val ⟨8064 + t.val, by omega⟩ c = h.vt t c := by
  unfold Head.val
  rw [dif_neg (show ¬ 8064 + t.val < 8064 by omega), dif_pos (show 8064 + t.val < 8192 by omega)]
  exact congrArg (fun u => h.vt u c) (Fin.ext (Nat.add_sub_cancel_left ..))

theorem val_new (c t : Fin 128) : h.val ⟨8192 + t.val, by omega⟩ c = h.valNew t c := by
  unfold Head.val
  rw [dif_neg (show ¬ 8192 + t.val < 8064 by omega), dif_neg (show ¬ 8192 + t.val < 8192 by omega)]
  exact congrArg (fun u => h.valNew u c) (Fin.ext (Nat.add_sub_cancel_left ..))

include hc H hk7 hv7 hs7 hz7 hkt hvt in
/-- The quotient of a block is the attention of its query, by lanes. -/
theorem out_apply (hr : r.val % 128 = s.val)
    (kn : FVec Ideal S128x128 .bf16) (hkn : ∀ t l : Fin 128, kn (ix2 t l) = h.keyNew t (chan l))
    (vn : FVec Ideal S128x128 .bf16) (hvn : ∀ l t : Fin 128, vn (ix2 l t) = h.valNew t (chan l)) (l : Fin 128) :
    k0_pay501 vn
      (k0_pay497 vt (accAt kl ks kz vl sl zl qt 30 (by omega))
        (k0_pay491 kt (k0_pay485 k7 (ks 248 (by omega)) (ks 249 (by omega)) (ks 250 (by omega)) (ks 251 (by omega)))
          (k0_pay486 (kz 248 (by omega))) (k0_pay487 (kz 249 (by omega))) (k0_pay488 (kz 250 (by omega))) (kz 251 (by omega)) qt)
        (k0_pay492 v7) (k0_pay493 s7) (k0_pay494 s7) (k0_pay495 s7) (k0_pay496 s7) z7)
      (k0_pay498 (sumAt kl ks kz qt 30 (by omega))
        (k0_pay490 kt (k0_pay485 k7 (ks 248 (by omega)) (ks 249 (by omega)) (ks 250 (by omega)) (ks 251 (by omega)))
          (k0_pay486 (kz 248 (by omega))) (k0_pay487 (kz 249 (by omega))) (k0_pay488 (kz 250 (by omega))) (kz 251 (by omega)) qt))
      (k0_pay499 kn k0_pay38 qt) (k0_pay500 kn k0_pay38 qt) (ix2 l r)
      = h.out g s (chan l) := by
  have hp := lastProbs_apply h g s r qt hc H k7 hk7 kt hkt
  unfold lastProbs at hp
  have h490 : ∀ e : Fin 8, k0_pay490 kt (k0_pay485 k7 (ks 248 (by omega)) (ks 249 (by omega)) (ks 250 (by omega)) (ks 251 (by omega)))
          (k0_pay486 (kz 248 (by omega))) (k0_pay487 (kz 249 (by omega))) (k0_pay488 (kz 250 (by omega))) (kz 251 (by omega)) qt (ix2 e r)
      = ∑ x : Fin 32, h.weight g s (lastKey h ⟨x.val * 8 + e.val, by omega⟩) := by
    intro e
    pointwise [k0_pay490]
    simp only [hp]
  have h491 : ∀ t : Fin 256, k0_pay491 kt (k0_pay485 k7 (ks 248 (by omega)) (ks 249 (by omega)) (ks 250 (by omega)) (ks 251 (by omega)))
          (k0_pay486 (kz 248 (by omega))) (k0_pay487 (kz 249 (by omega))) (k0_pay488 (kz 250 (by omega))) (kz 251 (by omega)) qt (ix2 t r)
      = h.weight g s (lastKey h t) := by
    intro t
    pointwise [k0_pay491]
    simp only [hp]
  have h499 := pay499_apply h g s r qt hc hr kn hkn
  have h500 : ∀ (x : Fin 16) (e : Fin 8), k0_pay500 kn k0_pay38 qt (ix3 x e r) = h.prob g s ⟨8192 + (x.val * 8 + e.val), by omega⟩ := by
    intro x e
    pointwise [k0_pay500]
    exact h499 ⟨x.val * 8 + e.val, by omega⟩
  have hn := pay497_apply h r v7 hv7 s7 hs7 z7 hz7 vt hvt (accAt kl ks kz vl sl zl qt 30 (by omega))
    (k0_pay491 kt (k0_pay485 k7 (ks 248 (by omega)) (ks 249 (by omega)) (ks 250 (by omega)) (ks 251 (by omega)))
          (k0_pay486 (kz 248 (by omega))) (k0_pay487 (kz 249 (by omega))) (k0_pay488 (kz 250 (by omega))) (kz 251 (by omega)) qt) l
  have ha := accAt_apply h H g s _ qt r hc l
  have hs := sumAt_apply h H g s _ qt r hc
  generalize k0_pay491 kt _ _ _ _ _ qt = p at h491 hn ⊢
  generalize k0_pay490 kt _ _ _ _ _ qt = p8 at h490 ⊢
  generalize accAt kl ks kz vl sl zl qt 30 (by omega) = acc at ha hn ⊢
  generalize sumAt kl ks kz qt 30 (by omega) = l8 at hs ⊢
  generalize k0_pay497 vt acc p _ _ _ _ _ z7 = num at hn ⊢
  generalize k0_pay499 kn k0_pay38 qt = pn at h499 ⊢
  generalize k0_pay500 kn k0_pay38 qt = pn3 at h500 ⊢
  pointwise [k0_pay501, k0_pay498]
  simp only [hn, ha, hvn, h490, h491, h499, h500]
  unfold Head.out
  refine congrArg₂ Ideal.div ?_ ?_
  · rw [sum_keys]
    refine congrArg₂ (· + ·) (congrArg₂ (· + ·) ?_ ?_) ?_
    · refine Eq.trans ?_ (Finset.sum_congr rfl fun t _ => congrArg₂ (· * ·) (cacheWeight_eq h g s t) (cacheVal_eq h (chan l) t))
      rw [sum_two 7936 128 8064 rfl]
      refine congrArg₂ (· + ·) rfl (Finset.sum_congr rfl fun x _ => ?_)
      rw [mul_comm, lastWeight_cache]
      refine congrArg (_ * ·) ?_
      rw [cacheVal, dif_pos (show 7936 + x.val < 8064 by omega)]
    · refine Finset.sum_congr rfl fun x _ => ?_
      rw [mul_comm, lastWeight_tail, val_tail]
    · refine Finset.sum_congr rfl fun x _ => ?_
      rw [mul_comm, val_new]
  · rw [sum_keys, Finset.sum_add_distrib, Finset.sum_add_distrib, hs]
    refine congrArg₂ (· + ·) ?_ ?_
    · rw [sum_rows 32 256 rfl fun t => h.weight g s (lastKey h t), sum_two 128 128 256 rfl, ← add_assoc]
      refine congrArg₂ (· + ·) ?_ (Finset.sum_congr rfl fun x _ => lastWeight_tail h g s x)
      refine Eq.trans ?_ (Finset.sum_congr rfl fun t _ => cacheWeight_eq h g s t)
      rw [sum_two 7936 128 8064 rfl]
      exact congrArg₂ (· + ·) rfl (Finset.sum_congr rfl fun x _ => lastWeight_cache h g s x)
    · exact sum_rows 16 128 rfl fun t => h.prob g s ⟨8192 + t.val, by omega⟩
end

end Cert.Proof
-- ==== Proof.Max.lean ====
/- The greatest score of a query: the tail, the new tokens, then the cache 128 tokens at a time. -/
module

public import proofs.«01_k».proof.Proof.Final
public import Idealize.ShloMosaic.Lib.Pipeline.ValueKit

@[expose] public section

noncomputable section

namespace Cert.Proof

open Idealize.ShloMosaic Idealize.ShloMosaic.TcCoe Idealize.ShloMosaic.Pointwise Cert.KernelIdeal Cert.KernelIdeal.Gen

theorem forall_keys (P : Fin 8320 → Prop) :
    (∀ t, P t) ↔ (∀ t : Fin 8064, P ⟨t.val, by omega⟩) ∧ (∀ t : Fin 128, P ⟨8064 + t.val, by omega⟩) ∧ ∀ t : Fin 128, P ⟨8192 + t.val, by omega⟩ := by
  constructor
  · exact fun h => ⟨fun t => h _, fun t => h _, fun t => h _⟩
  · rintro ⟨h1, h2, h3⟩ t
    by_cases a : t.val < 8064
    · exact h1 ⟨t.val, a⟩
    · by_cases b : t.val < 8192
      · have := h2 ⟨t.val - 8064, by omega⟩
        simp only [show 8064 + (t.val - 8064) = t.val by omega] at this
        exact this
      · have := h3 ⟨t.val - 8192, by omega⟩
        simp only [show 8192 + (t.val - 8192) = t.val by omega] at this
        exact this

section
variable [Cert.KernelIdeal.Facts]
variable (h : Head) (g : Fin 8) (s : Fin 128) (r : Fin 1024) (qb : Vec Ideal S128x1024 .bf16) (hq : ∀ l : Fin 128, qb (ix2 l r) = h.q g s (chan l))

include hq in
/-- A key held by lanes against a query held by lanes. -/
theorem dot_lanes (k : Fin 128 → EReal) : ∑ x : Fin 128, k (chan x) * qb (ix2 x r) = h.dot g s k := by
  simp only [hq]
  rw [sum_chan (fun c => k c * h.q g s c)]
  exact Finset.sum_congr rfl fun c _ => mul_comm _ _

/-- Four rows of scales spread over 128 tokens. -/
theorem rows4 (f : Fin 252 → EReal) (n : ℕ) (hn : n < 63) (t : ℕ) (ht : t < 128) :
    (if _ : t < 32 then f ⟨4 * n + 0, by omega⟩ else if _ : t - 32 < 32 then f ⟨4 * n + 1, by omega⟩
      else if _ : t - 32 - 32 < 32 then f ⟨4 * n + 2, by omega⟩ else f ⟨4 * n + 3, by omega⟩)
      = f ⟨(128 * n + t) / 32, by omega⟩ := by
  repeat' split
  all_goals congr 2; omega

include hq in
/-- One step of the maximum: 128 cached tokens, those of row `e` of each eight. -/
theorem step_apply (n : ℕ) (hn : n < 63) (acc : FVec Ideal S8x1024 .f32) (C : Vec Ideal S1x1x128x64 .i8) (s0 s1 s2 s3 z0 z1 z2 z3 : Vec Ideal S1x128 .f32)
    (hC : ∀ (t : Fin 128) (l : Fin 64), C (ix4 0 0 t l) = h.kc ⟨128 * n + t.val, by omega⟩ l)
    (hs0 : ∀ l : Fin 128, s0 (ix2 0 l) = h.ks ⟨4 * n + 0, by omega⟩ (chan l)) (hs1 : ∀ l : Fin 128, s1 (ix2 0 l) = h.ks ⟨4 * n + 1, by omega⟩ (chan l))
    (hs2 : ∀ l : Fin 128, s2 (ix2 0 l) = h.ks ⟨4 * n + 2, by omega⟩ (chan l)) (hs3 : ∀ l : Fin 128, s3 (ix2 0 l) = h.ks ⟨4 * n + 3, by omega⟩ (chan l))
    (hz0 : ∀ l : Fin 128, z0 (ix2 0 l) = h.kz ⟨4 * n + 0, by omega⟩ (chan l)) (hz1 : ∀ l : Fin 128, z1 (ix2 0 l) = h.kz ⟨4 * n + 1, by omega⟩ (chan l))
    (hz2 : ∀ l : Fin 128, z2 (ix2 0 l) = h.kz ⟨4 * n + 2, by omega⟩ (chan l)) (hz3 : ∀ l : Fin 128, z3 (ix2 0 l) = h.kz ⟨4 * n + 3, by omega⟩ (chan l))
    (e : Fin 8) (b : EReal) :
    k0_pay42 qb acc (k0_pay4 C) (k0_pay5 s0) (k0_pay6 s1) s2 s3 z0 z1 z2 z3 (ix2 e r) ≤ b
      ↔ acc (ix2 e r) ≤ b ∧ ∀ x : Fin 16, h.dot g s (h.keyCache ⟨128 * n + (x.val * 8 + e.val), by omega⟩) ≤ b := by
  have hc : ∀ t l : Fin 128, k0_pay4 C (ix2 t l) = nib (h.kc ⟨128 * n + t.val, by omega⟩ ⟨(chan l).val / 2, by omega⟩) (chan l).val := by
    intro t l
    pointwise [k0_pay4]
    rw [unpack128]
    pointwise []
    simp only [hC]
  generalize k0_pay4 C = k at hc ⊢
  pointwise [k0_pay42, k0_pay5, k0_pay6]
  simp only [hc, hs0, hs1, hs2, hs3, hz0, hz1, hz2, hz3]
  rw [fold_max_eq, max_le_iff, Finset.sup_le_iff]
  refine and_congr Iff.rfl ⟨fun H x => ?_, fun H x _ => ?_⟩
  · refine le_trans (le_of_eq ?_) (H x (Finset.mem_univ x))
    rw [← dot_lanes h g s r qb hq]
    refine Finset.sum_congr rfl fun l _ => congrArg (· * qb (ix2 l r)) ?_
    rw [rows4 (fun j => h.ks j (chan l)) n hn _ (by omega), rows4 (fun j => h.kz j (chan l)) n hn _ (by omega)]
    rfl
  · refine le_trans (le_of_eq ?_) (H x)
    rw [← dot_lanes h g s r qb hq]
    refine Finset.sum_congr rfl fun l _ => congrArg (· * qb (ix2 l r)) ?_
    rw [rows4 (fun j => h.ks j (chan l)) n hn _ (by omega), rows4 (fun j => h.kz j (chan l)) n hn _ (by omega)]
    rfl

omit g s r qb hq in
/-- The tail keys, by lanes. -/
theorem pay36_apply (kt : Vec Ideal S1x1x128x128 .bf16) (hkt : ∀ t c : Fin 128, kt (ix4 0 0 t c) = h.kt t c) (t l : Fin 128) :
    k0_pay36 k0_pay7 kt (ix2 t l) = h.kt t (chan l) := by
  pointwise [k0_pay36]
  simp only [pay7_apply, hkt]
  exact sum_onehot (fun c => h.kt t c) l

omit g s r qb hq in
/-- The tail values, by lanes. -/
theorem pay37_apply (vt : Vec Ideal S1x1x128x128 .bf16) (hvt : ∀ t c : Fin 128, vt (ix4 0 0 t c) = h.vt t c) (t l : Fin 128) :
    k0_pay37 k0_pay7 vt (ix2 l t) = h.vt t (chan l) := by
  pointwise [k0_pay37]
  simp only [pay7_apply, hvt]
  exact sum_onehot' (fun c => h.vt t c) l

include hq in
/-- The maximum before the loop: the tail, and the new tokens the query sees. -/
theorem start_apply (hr : r.val % 128 = s.val) (kt : Vec Ideal S1x1x128x128 .bf16) (hkt : ∀ t c : Fin 128, kt (ix4 0 0 t c) = h.kt t c)
    (kd : FVec Ideal S128x128 .bf16) (hkd : ∀ t l : Fin 128, k0_pay34 k0_pay7 kd (ix2 t l) = h.keyNew t (chan l)) (e : Fin 8) (b : EReal) :
    k0_pay41 (k0_pay39 k0_pay7 kt qb) (k0_pay40 k0_pay7 kd qb) (ix2 e r) ≤ b
      ↔ (∀ x : Fin 16, h.dot g s (h.kt ⟨x.val * 8 + e.val, by omega⟩) ≤ b)
        ∧ ∀ x : Fin 16, (if x.val * 8 + e.val ≤ s.val then h.dot g s (h.keyNew ⟨x.val * 8 + e.val, by omega⟩) else Head.negInf) ≤ b := by
  have ht := pay36_apply h kt hkt
  unfold k0_pay39 k0_pay40
  generalize k0_pay36 k0_pay7 kt = a at ht ⊢
  generalize k0_pay34 k0_pay7 kd = d at hkd ⊢
  pointwise [k0_pay41]
  simp only [ht, hkd, pay38_apply, hr]
  rw [fold_max_eq, fold_max_eq, max_le_iff, Finset.sup_le_iff, Finset.sup_le_iff]
  refine and_congr ⟨fun H x => ?_, fun H x _ => ?_⟩ ⟨fun H x => ?_, fun H x _ => ?_⟩
  · exact le_trans (le_of_eq (dot_lanes h g s r qb hq (fun c => h.kt _ c)).symm) (H x (Finset.mem_univ x))
  · exact le_trans (le_of_eq (dot_lanes h g s r qb hq (fun c => h.kt _ c))) (H x)
  · refine le_trans (le_of_eq ?_) (H x (Finset.mem_univ x))
    rw [← dot_lanes h g s r qb hq]
    split <;> rfl
  · refine le_trans (le_of_eq ?_) (H x)
    rw [← dot_lanes h g s r qb hq]
    split <;> rfl

/-- The eight rows of the maximum, all bounded: every score the query sees is bounded. -/
theorem top_le (b : EReal) :
    (∀ e : Fin 8, ((∀ x : Fin 16, h.dot g s (h.kt ⟨x.val * 8 + e.val, by omega⟩) ≤ b)
        ∧ ∀ x : Fin 16, (if x.val * 8 + e.val ≤ s.val then h.dot g s (h.keyNew ⟨x.val * 8 + e.val, by omega⟩) else Head.negInf) ≤ b)
        ∧ ∀ i : Fin 63, i.val < 63 → ∀ x : Fin 16, h.dot g s (h.keyCache ⟨128 * i.val + (x.val * 8 + e.val), by omega⟩) ≤ b)
      ↔ h.top g s ≤ b := by
  unfold Head.top
  rw [Finset.sup_le_iff]
  have hc : ∀ t : Fin 8064, h.key ⟨t.val, by omega⟩ = h.keyCache t := fun t => funext fun c => dif_pos t.isLt
  have hk : ∀ t : Fin 128, h.key ⟨8064 + t.val, by omega⟩ = h.kt t := fun t => funext fun c => by
    unfold Head.key
    rw [dif_neg (show ¬ 8064 + t.val < 8064 by omega), dif_pos (show 8064 + t.val < 8192 by omega)]
    exact congrArg (fun u => h.kt u c) (Fin.ext (Nat.add_sub_cancel_left ..))
  have hn : ∀ t : Fin 128, h.key ⟨8192 + t.val, by omega⟩ = h.keyNew t := fun t => funext fun c => by
    unfold Head.key
    rw [dif_neg (show ¬ 8192 + t.val < 8064 by omega), dif_neg (show ¬ 8192 + t.val < 8192 by omega)]
    exact congrArg (fun u => h.keyNew u c) (Fin.ext (Nat.add_sub_cancel_left ..))
  simp only [Finset.mem_univ, forall_true_left]
  rw [forall_keys]
  simp only [hc, hk, hn]
  constructor
  · intro H
    refine ⟨fun t => ?_, fun t => ?_, fun t => ?_⟩
    · rw [if_pos (show t.val ≤ 8192 + s.val by omega)]
      have := (H ⟨t.val % 8, by omega⟩).2 ⟨t.val / 128, by omega⟩ (by show t.val / 128 < 63; omega) ⟨t.val % 128 / 8, by omega⟩
      simp only [show 128 * (t.val / 128) + (t.val % 128 / 8 * 8 + t.val % 8) = t.val by omega] at this
      exact this
    · rw [if_pos (show 8064 + t.val ≤ 8192 + s.val by omega)]
      have := (H ⟨t.val % 8, by omega⟩).1.1 ⟨t.val / 8, by omega⟩
      simp only [show t.val / 8 * 8 + t.val % 8 = t.val by omega] at this
      exact this
    · have := (H ⟨t.val % 8, by omega⟩).1.2 ⟨t.val / 8, by omega⟩
      simp only [show t.val / 8 * 8 + t.val % 8 = t.val by omega] at this
      simp only [show (8192 + t.val ≤ 8192 + s.val) = (t.val ≤ s.val) from propext ⟨fun _ => by omega, fun _ => by omega⟩]
      exact this
  · rintro ⟨h1, h2, h3⟩ e
    refine ⟨⟨fun x => ?_, fun x => ?_⟩, fun i _ x => ?_⟩
    · have := h2 ⟨x.val * 8 + e.val, by omega⟩
      rw [if_pos (show 8064 + (x.val * 8 + e.val) ≤ 8192 + s.val by omega)] at this
      exact this
    · have := h3 ⟨x.val * 8 + e.val, by omega⟩
      simp only [show (8192 + (x.val * 8 + e.val) ≤ 8192 + s.val) = (x.val * 8 + e.val ≤ s.val) from propext ⟨fun _ => by omega, fun _ => by omega⟩] at this
      exact this
    · have := h1 ⟨128 * i.val + (x.val * 8 + e.val), by omega⟩
      rw [if_pos (show 128 * i.val + (x.val * 8 + e.val) ≤ 8192 + s.val by omega)] at this
      exact this

omit [Cert.KernelIdeal.Facts] in
/-- The three rows that hold the maximum's negative, and the rest of it. -/
theorem pay43_apply [Cert.KernelIdeal.Facts] (a : FVec Ideal S8x1024 .f32) (m : EReal) (hm : (Finset.univ.sup fun e : Fin 8 => a (ix2 e r)) = m) :
    k0_pay43 a (ix2 0 r) = -m ∧ k0_pay43 a (ix2 1 r) = -(m - m) ∧ k0_pay43 a (ix2 2 r) = -((m - m) - (m - m)) := by
  rw [← hm]
  refine ⟨?_, ?_, ?_⟩ <;> (pointwise [k0_pay43]; rw [fold_max_eq]; simp [sub_eq_add_neg] <;> rfl)
end

section
variable (c : Dev nD) (i : grid0.Coords) (arg2 : Memref sig .tc .vmem S1x128x1024 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x1x8064x64 .i8) (harg5 : arg5.IsWhole) (arg6 : Memref sig .tc .vmem S1x1x252x128 .bf16) (harg6 : arg6.IsWhole) (arg7 : Memref sig .tc .vmem S1x1x252x128 .bf16) (harg7 : arg7.IsWhole) (arg8 : Memref sig .tc .vmem S1x1x8064x64 .i8) (harg8 : arg8.IsWhole) (arg9 : Memref sig .tc .vmem S1x1x8064x4 .bf16) (harg9 : arg9.IsWhole) (arg10 : Memref sig .tc .vmem S1x1x8064x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x128x1024 .f32) (harg13 : arg13.IsWhole) (arg14 : Memref sig .tc .vmem S1x1x128x64 .i8) (harg14 : arg14.IsWhole) (arg15 : Memref sig .tc .vmem S1x1x4x128 .bf16) (harg15 : arg15.IsWhole) (arg16 : Memref sig .tc .vmem S1x1x4x128 .bf16) (harg16 : arg16.IsWhole) (arg17 : Memref sig .tc .vmem S1x1x128x64 .i8) (harg17 : arg17.IsWhole) (arg18 : Memref sig .tc .vmem S1x1x128x4 .bf16) (harg18 : arg18.IsWhole) (arg19 : Memref sig .tc .vmem S1x1x128x4 .bf16) (harg19 : arg19.IsWhole) (arg20 : Memref sig .tc .vmem S256x1024 .bf16) (harg20 : arg20.IsWhole) (arg21 : Memref sig .tc .vmem S252x128 .f32) (harg21 : arg21.IsWhole) (arg22 : Memref sig .tc .vmem S252x128 .f32) (harg22 : arg22.IsWhole)
  (h : Head) (g : Fin 8) (s : Fin 128) (r : Fin 1024) (qb : Vec Ideal S128x1024 .bf16) (hq : ∀ l : Fin 128, qb (ix2 l r) = h.q g s (chan l))
  (v191 : FVec Ideal S8x1024 .f32) (v195 : FVec Ideal S16x8x1024 .f32)
  (X5 : BufTy.Contents (Elt Ideal) arg5.view.ty) (X21 : BufTy.Contents (Elt Ideal) arg21.view.ty) (X22 : BufTy.Contents (Elt Ideal) arg22.view.ty)
  (h5 : ∀ (t : Fin 8064) (l : Fin 64), arg5.view.read (Elt Ideal) X5 (ix4 0 0 t l) = h.kc t l)
  (h21 : ∀ (n : Fin 252) (l : Fin 128), arg21.view.read (Elt Ideal) X21 (ix2 n l) = h.ks n (chan l))
  (h22 : ∀ (n : Fin 252) (l : Fin 128), arg22.view.read (Elt Ideal) X22 (ix2 n l) = h.kz n (chan l))

theorem trip_eq (k : Fin k0_t1_loop.trips) (acc : FVec Ideal S8x1024 .f32) :
    tripR_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 qb v191 v195 X5 X21 X22 k acc
      = k0_pay42 qb acc (k0_pay4 (View.readAt (Elt Ideal) arg5.view (Rect.unit (s := S1x1x8064x64) (k0_off2 k) S1x1x128x64.size (k0_off2_inb k)).toLoadRect X5))
          (k0_pay5 (View.readAt (Elt Ideal) arg21.view (Rect.unit (s := S252x128) (k0_off3 k 0#32) S1x128.size (k0_off3_inb k 0)).toLoadRect X21)) (k0_pay6 (View.readAt (Elt Ideal) arg21.view (Rect.unit (s := S252x128) (k0_off3 k 1#32) S1x128.size (k0_off3_inb k 1)).toLoadRect X21)) (View.readAt (Elt Ideal) arg21.view (Rect.unit (s := S252x128) (k0_off3 k 2#32) S1x128.size (k0_off3_inb k 2)).toLoadRect X21) (View.readAt (Elt Ideal) arg21.view (Rect.unit (s := S252x128) (k0_off3 k 3#32) S1x128.size (k0_off3_inb k 3)).toLoadRect X21) (View.readAt (Elt Ideal) arg22.view (Rect.unit (s := S252x128) (k0_off3 k 0#32) S1x128.size (k0_off3_inb k 0)).toLoadRect X22) (View.readAt (Elt Ideal) arg22.view (Rect.unit (s := S252x128) (k0_off3 k 1#32) S1x128.size (k0_off3_inb k 1)).toLoadRect X22) (View.readAt (Elt Ideal) arg22.view (Rect.unit (s := S252x128) (k0_off3 k 2#32) S1x128.size (k0_off3_inb k 2)).toLoadRect X22) (View.readAt (Elt Ideal) arg22.view (Rect.unit (s := S252x128) (k0_off3 k 3#32) S1x128.size (k0_off3_inb k 3)).toLoadRect X22) := by
  unfold tripR_k0_t1 trip_k0_t1
  rfl

omit c in
theorem row_apply (a : Memref sig .tc .vmem S252x128 .f32) (X : BufTy.Contents (Elt Ideal) a.view.ty) (f : Fin 252 → Fin 128 → EReal)
    (hX : ∀ (n : Fin 252) (l : Fin 128), a.view.read (Elt Ideal) X (ix2 n l) = f n l) (k : Fin k0_t1_loop.trips) (q : Fin 4) (hk : k.val < 63) (l : Fin 128) :
    View.readAt (Elt Ideal) a.view (Rect.unit (s := S252x128) (k0_off3 k (BitVec.ofNat 32 q.val)) S1x128.size (k0_off3_inb k q)).toLoadRect X (ix2 0 l)
      = f ⟨4 * k.val + q.val, by omega⟩ l := by
  rw [View.readAt_eq_ld, ← hX]
  show a.view.read (Elt Ideal) X _ = a.view.read (Elt Ideal) X _
  congr 1
  funext b
  have := congrFun (k0_off3_eq k q) b
  fin_cases b <;> apply Fin.ext <;> simp [Rect.unit, ix2] at this ⊢ <;> omega

theorem codes_apply (a : Memref sig .tc .vmem S1x1x8064x64 .i8) (X : BufTy.Contents (Elt Ideal) a.view.ty) (f : Fin 8064 → Fin 64 → BitVec 8)
    (hX : ∀ (t : Fin 8064) (l : Fin 64), a.view.read (Elt Ideal) X (ix4 0 0 t l) = f t l) (k : Fin k0_t1_loop.trips) (hk : k.val < 63) (t : Fin 128) (l : Fin 64) :
    View.readAt (Elt Ideal) a.view (Rect.unit (s := S1x1x8064x64) (k0_off2 k) S1x1x128x64.size (k0_off2_inb k)).toLoadRect X (ix4 0 0 t l)
      = f ⟨128 * k.val + t.val, by omega⟩ l := by
  rw [View.readAt_eq_ld, ← hX]
  show a.view.read (Elt Ideal) X _ = a.view.read (Elt Ideal) X _
  congr 1
  funext b
  have := congrFun (k0_off2_eq k) b
  fin_cases b <;> apply Fin.ext <;> simp [Rect.unit, ix4] at this ⊢ <;> omega

include hq h5 h21 h22 in
/-- The loop's value after `n` trips, by its upper bounds. -/
theorem loop_apply [Cert.KernelIdeal.Facts] (init : FVec Ideal S8x1024 .f32) (e : Fin 8) (b : EReal) :
    ∀ n : ℕ, n ≤ 63 → (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 qb v191 v195 X5 X21 X22 init n (ix2 e r) ≤ b
      ↔ init (ix2 e r) ≤ b ∧ ∀ i : Fin 63, i.val < n → ∀ x : Fin 16, h.dot g s (h.keyCache ⟨128 * i.val + (x.val * 8 + e.val), by omega⟩) ≤ b) := by
  intro n
  induction n with
  | zero =>
    intro _
    rw [st_k0_t1_zero]
    exact ⟨fun H => ⟨H, fun i hi => absurd hi (Nat.not_lt_zero _)⟩, fun H => H.1⟩
  | succ n ih =>
    intro hn
    have ht : n < k0_t1_loop.trips := lt_of_lt_of_le (show n < 63 by omega) (by decide)
    rw [st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 qb v191 v195 X5 X21 X22 init ⟨n, ht⟩, trip_eq]
    have hk : (⟨n, ht⟩ : Fin k0_t1_loop.trips).val < 63 := by show n < 63; omega
    refine (step_apply h g s r qb hq n (by omega) _ _ _ _ _ _ _ _ _ _ (codes_apply arg5 X5 h.kc h5 ⟨n, ht⟩ hk)
      (row_apply arg21 X21 (fun n l => h.ks n (chan l)) h21 ⟨n, ht⟩ 0 hk) (row_apply arg21 X21 (fun n l => h.ks n (chan l)) h21 ⟨n, ht⟩ 1 hk)
      (row_apply arg21 X21 (fun n l => h.ks n (chan l)) h21 ⟨n, ht⟩ 2 hk) (row_apply arg21 X21 (fun n l => h.ks n (chan l)) h21 ⟨n, ht⟩ 3 hk)
      (row_apply arg22 X22 (fun n l => h.kz n (chan l)) h22 ⟨n, ht⟩ 0 hk) (row_apply arg22 X22 (fun n l => h.kz n (chan l)) h22 ⟨n, ht⟩ 1 hk)
      (row_apply arg22 X22 (fun n l => h.kz n (chan l)) h22 ⟨n, ht⟩ 2 hk) (row_apply arg22 X22 (fun n l => h.kz n (chan l)) h22 ⟨n, ht⟩ 3 hk) e b).trans ?_
    refine (and_congr (ih (by omega)) Iff.rfl).trans ?_
    rw [and_assoc]
    refine and_congr Iff.rfl ⟨fun H i hi x => ?_, fun H => ⟨fun i hi => H i (by omega), fun x => H ⟨n, by omega⟩ (by show n < n + 1; omega) x⟩⟩
    rcases Nat.lt_succ_iff_lt_or_eq.mp hi with h1 | h1
    · exact H.1 i h1 x
    · have := H.2 x
      subst h1
      exact this
end

end Cert.Proof
-- ==== Proof.Loads.lean ====
/- What the kernel's loads read: windows of the blocks, and rows of the scratch filled before. -/
module

public import proofs.«01_k».proof.Proof.Bridge
public import proofs.«01_k».proof.Proof.Quant
public import proofs.«01_k».proof.Proof.Max

@[expose] public section

noncomputable section

namespace Cert.Proof

open Idealize.ShloMosaic Idealize.ShloMosaic.TcCoe Idealize.ShloMosaic.Pointwise Cert.KernelIdeal Cert.KernelIdeal.Gen

/-- A load from a whole block that was filled with `x` reads `x` where its rectangle lies. -/
theorem load_apply {s : Shape} {e : EltTy} (a : Memref sig .tc .vmem s e) (ha : a.IsWhole) (x : Vec Ideal s e) (r : Rect s) (y : r.shape.Idx) (z : s.Idx)
    (hz : ∀ b, (r.idx y b).val = (z b).val) : View.readAt (Elt Ideal) a.view r.toLoadRect (ha.unread x) y = x z := by
  rw [View.readAt_eq_ld, ha.read_unread]
  show x (r.idx y) = x z
  exact congrArg x (funext fun b => Fin.ext (hz b))

/-- A store is what its rectangle holds afterwards. -/
theorem canon_at {s : Shape} {e : EltTy} (r : Rect s) (w : r.shape.Idx → Elt Ideal e) (L : List (View.Piece (Elt Ideal) s e)) (x : r.shape.Idx) (y : s.Idx)
    (hy : ∀ b, (r.idx x b).val = (y b).val) : View.canon (⟨r, w⟩ :: L) y = w x := by
  rw [← View.canon_cons_emb r w L x]
  exact congrArg _ (funext fun b => Fin.ext (hy b).symm)

theorem ldCodes_apply (a : Memref sig .tc .vmem S1x1x8064x64 .i8) (ha : a.IsWhole) (x : Vec Ideal S1x1x8064x64 .i8) (j : ℕ) (hj : j < 31)
    (t : Fin 256) (l : Fin 64) : ldCodes a ha x j hj (ix4 0 0 t l) = x (ix4 0 0 ⟨256 * j + t.val, by omega⟩ l) :=
  load_apply a ha x _ _ _ (by intro b; fin_cases b <;> simp [Rect.unit, ix4])
theorem ldScales_apply (a : Memref sig .tc .vmem S1x1x8064x4 .bf16) (ha : a.IsWhole) (x : Vec Ideal S1x1x8064x4 .bf16) (j : ℕ) (hj : j < 31)
    (t : Fin 256) (l : Fin 4) : ldScales a ha x j hj (ix4 0 0 t l) = x (ix4 0 0 ⟨256 * j + t.val, by omega⟩ l) :=
  load_apply a ha x _ _ _ (by intro b; fin_cases b <;> simp [Rect.unit, ix4])
theorem ldRow_apply (a : Memref sig .tc .vmem S252x128 .f32) (H : List (View.Piece (Elt Ideal) S252x128 .f32)) (n : ℕ) (hn : n < 252) (l : Fin 128) :
    ldRow a H n hn (ix2 0 l) = View.canon H (ix2 ⟨n, hn⟩ l) := by
  unfold ldRow
  rw [View.readCov_eq_canon']
  exact congrArg _ (funext fun b => Fin.ext (by fin_cases b <;> simp [Rect.unit, ix2]))

/-- The data of key/value head `hh` in the blocks. -/
def blockHead (hh : Fin 2) (x0 : Vec Ideal S1x128x1024 .f32) (x1 x2 : Vec Ideal S1x256x128 .f32) (x3 : Vec Ideal S1x1x8064x64 .i8) (x4 x5 : Vec Ideal S1x1x252x128 .bf16)
    (x6 : Vec Ideal S1x1x8064x64 .i8) (x7 x8 : Vec Ideal S1x1x8064x4 .bf16) (x9 x10 : Vec Ideal S1x1x128x128 .bf16) : Head where
  q g s c := x0 (ix3 0 s ⟨128 * g.val + c.val, by omega⟩)
  kn s c := x1 (ix3 0 ⟨hh.val + 2 * s.val, by omega⟩ c)
  vn s c := x2 (ix3 0 ⟨hh.val + 2 * s.val, by omega⟩ c)
  kc t j := x3 (ix4 0 0 t j)
  ks n c := x4 (ix4 0 0 n c)
  kz n c := x5 (ix4 0 0 n c)
  vc t j := x6 (ix4 0 0 t j)
  vs t e := x7 (ix4 0 0 t e)
  vz t e := x8 (ix4 0 0 t e)
  kt t c := x9 (ix4 0 0 t c)
  vt t c := x10 (ix4 0 0 t c)

/-- The strided load of one head's new keys or values. -/
theorem strided_apply (i : grid0.Coords) (a : Memref sig .tc .vmem S1x256x128 .f32) (ha : a.IsWhole) (x : Vec Ideal S1x256x128 .f32)
    (inb : ∀ b, S1x128x128.size b = 0 ∨ (k0_off1 i) b + (![1, 2, 1] : Fin 3 → Nat) b * (S1x128x128.size b - 1) < S1x256x128.size b) (hi : (i 1).val < 2) (s c : Fin 128) :
    View.readAt (Elt Ideal) a.view { off := k0_off1 i, size := S1x128x128.size, stride := ![1, 2, 1], inb := inb } (ha.unread x) (ix3 0 s c)
      = x (ix3 0 ⟨(i 1).val + 2 * s.val, by omega⟩ c) := by
  rw [View.readAt, ← ha.read_unread x]
  show a.view.read (Elt Ideal) _ _ = _
  rw [ha.read_unread]
  refine congrArg _ (funext fun b => Fin.ext ?_)
  have := congrFun (k0_off1_eq i) b
  fin_cases b <;> simp [ix3] at this ⊢ <;> omega

section
variable [Cert.KernelIdeal.Facts] (c : Dev nD) (i : grid0.Coords) (arg2 : Memref sig .tc .vmem S1x128x1024 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x1x8064x64 .i8) (harg5 : arg5.IsWhole) (arg6 : Memref sig .tc .vmem S1x1x252x128 .bf16) (harg6 : arg6.IsWhole) (arg7 : Memref sig .tc .vmem S1x1x252x128 .bf16) (harg7 : arg7.IsWhole) (arg8 : Memref sig .tc .vmem S1x1x8064x64 .i8) (harg8 : arg8.IsWhole) (arg9 : Memref sig .tc .vmem S1x1x8064x4 .bf16) (harg9 : arg9.IsWhole) (arg10 : Memref sig .tc .vmem S1x1x8064x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x128x1024 .f32) (harg13 : arg13.IsWhole) (arg14 : Memref sig .tc .vmem S1x1x128x64 .i8) (harg14 : arg14.IsWhole) (arg15 : Memref sig .tc .vmem S1x1x4x128 .bf16) (harg15 : arg15.IsWhole) (arg16 : Memref sig .tc .vmem S1x1x4x128 .bf16) (harg16 : arg16.IsWhole) (arg17 : Memref sig .tc .vmem S1x1x128x64 .i8) (harg17 : arg17.IsWhole) (arg18 : Memref sig .tc .vmem S1x1x128x4 .bf16) (harg18 : arg18.IsWhole) (arg19 : Memref sig .tc .vmem S1x1x128x4 .bf16) (harg19 : arg19.IsWhole) (arg20 : Memref sig .tc .vmem S256x1024 .bf16) (harg20 : arg20.IsWhole) (arg21 : Memref sig .tc .vmem S252x128 .f32) (harg21 : arg21.IsWhole) (arg22 : Memref sig .tc .vmem S252x128 .f32) (harg22 : arg22.IsWhole)
  (x0 : Vec Ideal S1x128x1024 .f32) (x1 x2 : Vec Ideal S1x256x128 .f32) (x3 : Vec Ideal S1x1x8064x64 .i8) (x4 x5 : Vec Ideal S1x1x252x128 .bf16)
  (x6 : Vec Ideal S1x1x8064x64 .i8) (x7 x8 : Vec Ideal S1x1x8064x4 .bf16) (x9 x10 : Vec Ideal S1x1x128x128 .bf16)

theorem keyScales_apply (n : Fin 252) (l : Fin 128) :
    View.canon (kernelRun0_A.sl.HS1_1 c arg6 harg6 x4) (ix2 n l) = x4 (ix4 0 0 n (chan l)) := by
  unfold kernelRun0_A.sl.HS1_1
  rw [canon_at _ _ [] (ix2 n l : S252x128.Idx) _ (by intro b; fin_cases b <;> simp [Rect.unit, ix2])]
  have hw : ∀ (n : Fin 252) (l : Fin 128), View.readAt (Elt Ideal) arg6.view (Rect.unit (s := S1x1x252x128) ![0, 0, 0, 0] S1x1x252x128.size inb_S1x1x252x128_S1x1x252x128_0_0_0_0).toLoadRect (harg6.unread x4) (ix4 0 0 n l) = x4 (ix4 0 0 n l) :=
    fun n l => load_apply arg6 harg6 x4 _ _ _ (by intro b; fin_cases b <;> simp [Rect.unit, ix4])
  generalize View.readAt (Elt Ideal) arg6.view _ (harg6.unread x4) = w at hw ⊢
  pointwise [k0_pay11]
  simp only [pay7_apply, hw]
  exact sum_onehot (fun c => x4 (ix4 0 0 n c)) l

theorem keyZeros_apply (n : Fin 252) (l : Fin 128) :
    View.canon (kernelRun0_A.sl.HS2_1 c arg7 harg7 x5) (ix2 n l) = x5 (ix4 0 0 n (chan l)) := by
  unfold kernelRun0_A.sl.HS2_1
  rw [canon_at _ _ [] (ix2 n l : S252x128.Idx) _ (by intro b; fin_cases b <;> simp [Rect.unit, ix2])]
  have hw : ∀ (n : Fin 252) (l : Fin 128), View.readAt (Elt Ideal) arg7.view (Rect.unit (s := S1x1x252x128) ![0, 0, 0, 0] S1x1x252x128.size inb_S1x1x252x128_S1x1x252x128_0_0_0_0).toLoadRect (harg7.unread x5) (ix4 0 0 n l) = x5 (ix4 0 0 n l) :=
    fun n l => load_apply arg7 harg7 x5 _ _ _ (by intro b; fin_cases b <;> simp [Rect.unit, ix4])
  generalize View.readAt (Elt Ideal) arg7.view _ (harg7.unread x5) = w at hw ⊢
  pointwise [k0_pay12]
  simp only [pay7_apply, hw]
  exact sum_onehot (fun c => x5 (ix4 0 0 n c)) l

/-- The queries, by lanes. -/
theorem queries_apply (l : Fin 128) (r : Fin 1024) :
    k0_pay10 (kernelRun0_A.sl.r c arg2 harg2 x0) (ix2 l r) = x0 (ix3 0 ⟨r.val % 128, by omega⟩ ⟨128 * (r.val / 128) + (chan l).val, by omega⟩) := by
  unfold kernelRun0_A.sl.r
  have hw : ∀ (s : Fin 128) (l : Fin 1024), View.readAt (Elt Ideal) arg2.view (Rect.unit (s := S1x128x1024) ![0, 0, 0] S1x128x1024.size inb_S1x128x1024_S1x128x1024_0_0_0).toLoadRect (harg2.unread x0) (ix3 0 s l) = x0 (ix3 0 s l) :=
    fun n l => load_apply arg2 harg2 x0 _ _ _ (by intro b; fin_cases b <;> simp [Rect.unit, ix3])
  generalize View.readAt (Elt Ideal) arg2.view _ (harg2.unread x0) = w at hw ⊢
  pointwise [k0_pay9, k0_pay10]
  simp only [pay7_apply, hw]
  refine Eq.trans (Finset.sum_congr rfl fun x _ => congrArg ((if x = chan l then (1 : EReal) else 0) * ·) ?_)
    (sum_onehot' (fun c => x0 (ix3 0 ⟨r.val % 128, by omega⟩ ⟨128 * (r.val / 128) + c.val, by omega⟩)) l)
  repeat' split
  all_goals refine congrArg₂ (fun a b => x0 (ix3 0 a b)) (Fin.ext ?_) (Fin.ext ?_) <;> (dsimp only; omega)
end

end Cert.Proof
-- ==== Proof.Reads.lean ====
/- What each grid point reads: the blocks of a (batch, key/value head) pair. -/
module

public import proofs.«01_k».proof.Proof.Data
public import proofs.«01_k».proof.Proof.Loads
public import proofs.«01_k».proof.Proof.Gen.KernelIdeal.Value
public import Idealize.ShloMosaic.Lib.Claim

@[expose] public section

noncomputable section

namespace Cert.Proof

open Idealize.ShloMosaic Idealize.ShloMosaic.TcCoe Idealize.ShloMosaic.Pointwise Cert.KernelIdeal Cert.KernelIdeal.Gen
open Idealize.SL.Sem

variable [Cert.KernelIdeal.Facts] (m : (ℓ : Loc nD τ sig) → Buf (Elt Ideal) ℓ) (c : Dev nD)

/-- The arguments in the kernel's memory. -/
def kernelArgs : Args where
  x := m ((c : Thread nD τ).loc main_arg0)
  kNew := m ((c : Thread nD τ).loc main_arg1)
  vNew := m ((c : Thread nD τ).loc main_arg2)
  kCodes := m ((c : Thread nD τ).loc main_arg3)
  kScales := m ((c : Thread nD τ).loc main_arg4)
  kZeros := m ((c : Thread nD τ).loc main_arg5)
  vCodes := m ((c : Thread nD τ).loc main_arg6)
  vScales := m ((c : Thread nD τ).loc main_arg7)
  vZeros := m ((c : Thread nD τ).loc main_arg8)
  kTail := m ((c : Thread nD τ).loc main_arg9)
  vTail := m ((c : Thread nD τ).loc main_arg10)

theorem index0 : ∀ t : Fin cfg0.N, win0_0.index t = ![(grid0.coords t 0).val, 0, (grid0.coords t 1).val] :=
  (by decide +kernel : ∀ t : Fin grid0.N, _)
theorem index1 : ∀ t : Fin cfg0.N, win0_1.index t = ![(grid0.coords t 0).val, 0, 0] :=
  (by decide +kernel : ∀ t : Fin grid0.N, _)
theorem index2 : ∀ t : Fin cfg0.N, win0_2.index t = ![(grid0.coords t 0).val, 0, 0] :=
  (by decide +kernel : ∀ t : Fin grid0.N, _)
theorem index3 : ∀ t : Fin cfg0.N, win0_3.index t = ![(grid0.coords t 0).val, (grid0.coords t 1).val, 0, 0] :=
  (by decide +kernel : ∀ t : Fin grid0.N, _)
theorem index4 : ∀ t : Fin cfg0.N, win0_4.index t = ![(grid0.coords t 0).val, (grid0.coords t 1).val, 0, 0] :=
  (by decide +kernel : ∀ t : Fin grid0.N, _)
theorem index5 : ∀ t : Fin cfg0.N, win0_5.index t = ![(grid0.coords t 0).val, (grid0.coords t 1).val, 0, 0] :=
  (by decide +kernel : ∀ t : Fin grid0.N, _)
theorem index6 : ∀ t : Fin cfg0.N, win0_6.index t = ![(grid0.coords t 0).val, (grid0.coords t 1).val, 0, 0] :=
  (by decide +kernel : ∀ t : Fin grid0.N, _)
theorem index7 : ∀ t : Fin cfg0.N, win0_7.index t = ![(grid0.coords t 0).val, (grid0.coords t 1).val, 0, 0] :=
  (by decide +kernel : ∀ t : Fin grid0.N, _)
theorem index8 : ∀ t : Fin cfg0.N, win0_8.index t = ![(grid0.coords t 0).val, (grid0.coords t 1).val, 0, 0] :=
  (by decide +kernel : ∀ t : Fin grid0.N, _)
theorem index9 : ∀ t : Fin cfg0.N, win0_9.index t = ![(grid0.coords t 0).val, (grid0.coords t 1).val, 0, 0] :=
  (by decide +kernel : ∀ t : Fin grid0.N, _)
theorem index10 : ∀ t : Fin cfg0.N, win0_10.index t = ![(grid0.coords t 0).val, (grid0.coords t 1).val, 0, 0] :=
  (by decide +kernel : ∀ t : Fin grid0.N, _)
theorem index11 : ∀ t : Fin cfg0.N, win0_11.index t = ![(grid0.coords t 0).val, 0, (grid0.coords t 1).val] :=
  (by decide +kernel : ∀ t : Fin grid0.N, _)
theorem index12 : ∀ t : Fin cfg0.N, win0_12.index t = ![(grid0.coords t 0).val, (grid0.coords t 1).val, 0, 0] :=
  (by decide +kernel : ∀ t : Fin grid0.N, _)
theorem index13 : ∀ t : Fin cfg0.N, win0_13.index t = ![(grid0.coords t 0).val, (grid0.coords t 1).val, 0, 0] :=
  (by decide +kernel : ∀ t : Fin grid0.N, _)
theorem index14 : ∀ t : Fin cfg0.N, win0_14.index t = ![(grid0.coords t 0).val, (grid0.coords t 1).val, 0, 0] :=
  (by decide +kernel : ∀ t : Fin grid0.N, _)
theorem index15 : ∀ t : Fin cfg0.N, win0_15.index t = ![(grid0.coords t 0).val, (grid0.coords t 1).val, 0, 0] :=
  (by decide +kernel : ∀ t : Fin grid0.N, _)
theorem index16 : ∀ t : Fin cfg0.N, win0_16.index t = ![(grid0.coords t 0).val, (grid0.coords t 1).val, 0, 0] :=
  (by decide +kernel : ∀ t : Fin grid0.N, _)
theorem index17 : ∀ t : Fin cfg0.N, win0_17.index t = ![(grid0.coords t 0).val, (grid0.coords t 1).val, 0, 0] :=
  (by decide +kernel : ∀ t : Fin grid0.N, _)

theorem read0 (t : Fin cfg0.N) (hb : (grid0.coords t 0).val < 16) (s : Fin 128) (k : Fin 1024) (h : 1024 * (grid0.coords t 1).val + k.val < 2048) :
    iblk m c 0 t (ix3 0 s k) = (kernelArgs m c).x (ix3 ⟨(grid0.coords t 0).val, hb⟩ s ⟨1024 * (grid0.coords t 1).val + k.val, h⟩) := by
  show _ = m ((c : Thread nD τ).loc main_arg0) _
  blk_ext! [iblk, V_main_arg0, index0 t]

theorem read1 (t : Fin cfg0.N) (hb : (grid0.coords t 0).val < 16) (hh : Fin 2) (s k : Fin 128) (h : hh.val + 2 * s.val < 256) :
    iblk m c 1 t (ix3 0 ⟨hh.val + 2 * s.val, h⟩ k) = (kernelArgs m c).kNew (ix4 ⟨(grid0.coords t 0).val, hb⟩ s hh k) := by
  show _ = m ((c : Thread nD τ).loc main_arg1) _
  blk_simp [iblk, index1 t]
  entry_read
  pointwise
  blk_ext [iblk, index1 t]

theorem read2 (t : Fin cfg0.N) (hb : (grid0.coords t 0).val < 16) (hh : Fin 2) (s k : Fin 128) (h : hh.val + 2 * s.val < 256) :
    iblk m c 2 t (ix3 0 ⟨hh.val + 2 * s.val, h⟩ k) = (kernelArgs m c).vNew (ix4 ⟨(grid0.coords t 0).val, hb⟩ s hh k) := by
  show _ = m ((c : Thread nD τ).loc main_arg2) _
  blk_simp [iblk, index2 t]
  entry_read
  pointwise
  blk_ext [iblk, index2 t]

theorem read3 (t : Fin cfg0.N) (hb : (grid0.coords t 0).val < 16) (hi : (grid0.coords t 1).val < 2) (s : Fin 8064) (k : Fin 64) :
    iblk m c 3 t (ix4 0 0 s k) = (kernelArgs m c).kCodes (ix4 ⟨(grid0.coords t 0).val, hb⟩ ⟨(grid0.coords t 1).val, hi⟩ s k) := by
  show _ = m ((c : Thread nD τ).loc main_arg3) _
  blk_ext! [iblk, V_main_arg3, index3 t]

theorem read4 (t : Fin cfg0.N) (hb : (grid0.coords t 0).val < 16) (hi : (grid0.coords t 1).val < 2) (s : Fin 252) (k : Fin 128) :
    iblk m c 4 t (ix4 0 0 s k) = (kernelArgs m c).kScales (ix4 ⟨(grid0.coords t 0).val, hb⟩ ⟨(grid0.coords t 1).val, hi⟩ s k) := by
  show _ = m ((c : Thread nD τ).loc main_arg4) _
  blk_ext! [iblk, V_main_arg4, index4 t]

theorem read5 (t : Fin cfg0.N) (hb : (grid0.coords t 0).val < 16) (hi : (grid0.coords t 1).val < 2) (s : Fin 252) (k : Fin 128) :
    iblk m c 5 t (ix4 0 0 s k) = (kernelArgs m c).kZeros (ix4 ⟨(grid0.coords t 0).val, hb⟩ ⟨(grid0.coords t 1).val, hi⟩ s k) := by
  show _ = m ((c : Thread nD τ).loc main_arg5) _
  blk_ext! [iblk, V_main_arg5, index5 t]

theorem read6 (t : Fin cfg0.N) (hb : (grid0.coords t 0).val < 16) (hi : (grid0.coords t 1).val < 2) (s : Fin 8064) (k : Fin 64) :
    iblk m c 6 t (ix4 0 0 s k) = (kernelArgs m c).vCodes (ix4 ⟨(grid0.coords t 0).val, hb⟩ ⟨(grid0.coords t 1).val, hi⟩ s k) := by
  show _ = m ((c : Thread nD τ).loc main_arg6) _
  blk_ext! [iblk, V_main_arg6, index6 t]

theorem read7 (t : Fin cfg0.N) (hb : (grid0.coords t 0).val < 16) (hi : (grid0.coords t 1).val < 2) (s : Fin 8064) (k : Fin 4) :
    iblk m c 7 t (ix4 0 0 s k) = (kernelArgs m c).vScales (ix4 ⟨(grid0.coords t 0).val, hb⟩ ⟨(grid0.coords t 1).val, hi⟩ s k) := by
  show _ = m ((c : Thread nD τ).loc main_arg7) _
  blk_ext! [iblk, V_main_arg7, index7 t]

theorem read8 (t : Fin cfg0.N) (hb : (grid0.coords t 0).val < 16) (hi : (grid0.coords t 1).val < 2) (s : Fin 8064) (k : Fin 4) :
    iblk m c 8 t (ix4 0 0 s k) = (kernelArgs m c).vZeros (ix4 ⟨(grid0.coords t 0).val, hb⟩ ⟨(grid0.coords t 1).val, hi⟩ s k) := by
  show _ = m ((c : Thread nD τ).loc main_arg8) _
  blk_ext! [iblk, V_main_arg8, index8 t]

theorem read9 (t : Fin cfg0.N) (hb : (grid0.coords t 0).val < 16) (hi : (grid0.coords t 1).val < 2) (s : Fin 128) (k : Fin 128) :
    iblk m c 9 t (ix4 0 0 s k) = (kernelArgs m c).kTail (ix4 ⟨(grid0.coords t 0).val, hb⟩ ⟨(grid0.coords t 1).val, hi⟩ s k) := by
  show _ = m ((c : Thread nD τ).loc main_arg9) _
  blk_ext! [iblk, V_main_arg9, index9 t]

theorem read10 (t : Fin cfg0.N) (hb : (grid0.coords t 0).val < 16) (hi : (grid0.coords t 1).val < 2) (s : Fin 128) (k : Fin 128) :
    iblk m c 10 t (ix4 0 0 s k) = (kernelArgs m c).vTail (ix4 ⟨(grid0.coords t 0).val, hb⟩ ⟨(grid0.coords t 1).val, hi⟩ s k) := by
  show _ = m ((c : Thread nD τ).loc main_arg10) _
  blk_ext! [iblk, V_main_arg10, index10 t]

/-- The blocks of a grid point are its (batch, key/value head) pair's data. -/
theorem point_head (t : Fin cfg0.N) (hb : (grid0.coords t 0).val < 16) (hi : (grid0.coords t 1).val < 2) :
    blockHead ⟨(grid0.coords t 1).val, hi⟩ (iblk m c 0 t) (iblk m c 1 t) (iblk m c 2 t) (iblk m c 3 t) (iblk m c 4 t) (iblk m c 5 t) (iblk m c 6 t)
        (iblk m c 7 t) (iblk m c 8 t) (iblk m c 9 t) (iblk m c 10 t)
      = (kernelArgs m c).head ⟨(grid0.coords t 0).val, hb⟩ ⟨(grid0.coords t 1).val, hi⟩ := by
  unfold blockHead Args.head
  rw [Head.mk.injEq]
  refine ⟨?_, ?_, ?_, ?_, ?_, ?_, ?_, ?_, ?_, ?_, ?_⟩
  · funext g s k
    refine (read0 m c t hb s ⟨128 * g.val + k.val, by omega⟩ (by dsimp only; omega)).trans (congrArg _ (congrArg _ (Fin.ext ?_)))
    dsimp only
    omega
  · funext s k
    exact read1 m c t hb _ s k _
  · funext s k
    exact read2 m c t hb _ s k _
  · funext s k
    exact read3 m c t hb hi s k
  · funext s k
    exact read4 m c t hb hi s k
  · funext s k
    exact read5 m c t hb hi s k
  · funext s k
    exact read6 m c t hb hi s k
  · funext s k
    exact read7 m c t hb hi s k
  · funext s k
    exact read8 m c t hb hi s k
  · funext s k
    exact read9 m c t hb hi s k
  · funext s k
    exact read10 m c t hb hi s k

end Cert.Proof
-- ==== Proof.Block.lean ====
/- The run's own words at an index: the transposed queries with the maximum, and the attention. -/
module

public import proofs.«01_k».proof.Proof.Loads

@[expose] public section

noncomputable section

namespace Cert.Proof

open Idealize.ShloMosaic Idealize.ShloMosaic.TcCoe Idealize.ShloMosaic.Pointwise Cert.KernelIdeal Cert.KernelIdeal.Gen

variable [Cert.KernelIdeal.Facts] (c : Dev nD) (i : grid0.Coords) (arg2 : Memref sig .tc .vmem S1x128x1024 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x1x8064x64 .i8) (harg5 : arg5.IsWhole) (arg6 : Memref sig .tc .vmem S1x1x252x128 .bf16) (harg6 : arg6.IsWhole) (arg7 : Memref sig .tc .vmem S1x1x252x128 .bf16) (harg7 : arg7.IsWhole) (arg8 : Memref sig .tc .vmem S1x1x8064x64 .i8) (harg8 : arg8.IsWhole) (arg9 : Memref sig .tc .vmem S1x1x8064x4 .bf16) (harg9 : arg9.IsWhole) (arg10 : Memref sig .tc .vmem S1x1x8064x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x128x1024 .f32) (harg13 : arg13.IsWhole) (arg14 : Memref sig .tc .vmem S1x1x128x64 .i8) (harg14 : arg14.IsWhole) (arg15 : Memref sig .tc .vmem S1x1x4x128 .bf16) (harg15 : arg15.IsWhole) (arg16 : Memref sig .tc .vmem S1x1x4x128 .bf16) (harg16 : arg16.IsWhole) (arg17 : Memref sig .tc .vmem S1x1x128x64 .i8) (harg17 : arg17.IsWhole) (arg18 : Memref sig .tc .vmem S1x1x128x4 .bf16) (harg18 : arg18.IsWhole) (arg19 : Memref sig .tc .vmem S1x1x128x4 .bf16) (harg19 : arg19.IsWhole) (arg20 : Memref sig .tc .vmem S256x1024 .bf16) (harg20 : arg20.IsWhole) (arg21 : Memref sig .tc .vmem S252x128 .f32) (harg21 : arg21.IsWhole) (arg22 : Memref sig .tc .vmem S252x128 .f32) (harg22 : arg22.IsWhole)
  (x0 : Vec Ideal S1x128x1024 .f32) (x1 x2 : Vec Ideal S1x256x128 .f32) (x3 : Vec Ideal S1x1x8064x64 .i8) (x4 x5 : Vec Ideal S1x1x252x128 .bf16)
  (x6 : Vec Ideal S1x1x8064x64 .i8) (x7 x8 : Vec Ideal S1x1x8064x4 .bf16) (x9 x10 : Vec Ideal S1x1x128x128 .bf16)
  (hi : (i 1).val < 2)

theorem trips_eq : Scf.trips k0_t1_loop.lb k0_t1_loop.ub k0_t1_loop.st = 63 := by decide

/-- The keys of the new tokens, by lanes. -/
theorem keyNew_apply (t l : Fin 128) : kernelRun0_A.sl.r_11 c i arg3 harg3 x1 (ix2 t l) = (blockHead ⟨(i 1).val, hi⟩ x0 x1 x2 x3 x4 x5 x6 x7 x8 x9 x10).keyNew t (chan l) :=
  pay34_apply (blockHead ⟨(i 1).val, hi⟩ x0 x1 x2 x3 x4 x5 x6 x7 x8 x9 x10) _ (fun t c => strided_apply i arg3 harg3 x1 _ hi t c) t l

/-- The values of the new tokens, by lanes. -/
theorem valNew_apply (t l : Fin 128) : kernelRun0_A.sl.r_12 c i arg4 harg4 x2 (ix2 l t) = (blockHead ⟨(i 1).val, hi⟩ x0 x1 x2 x3 x4 x5 x6 x7 x8 x9 x10).valNew t (chan l) :=
  pay35_apply (blockHead ⟨(i 1).val, hi⟩ x0 x1 x2 x3 x4 x5 x6 x7 x8 x9 x10) _ (fun t c => strided_apply i arg4 harg4 x2 _ hi t c) l t

/-- The queries read back from scratch. -/
theorem v188_apply (r : Fin 1024) (l : Fin 128) :
    kernelRun0_A.sl.v188 c arg2 harg2 arg20 x0 (ix2 l r) = (blockHead ⟨(i 1).val, hi⟩ x0 x1 x2 x3 x4 x5 x6 x7 x8 x9 x10).q ⟨r.val / 128, by omega⟩ ⟨r.val % 128, by omega⟩ (chan l) := by
  unfold kernelRun0_A.sl.v188 kernelRun0_A.sl.HS0_1
  rw [View.readCov_eq_canon']
  show View.canon _ _ = _
  rw [canon_at _ _ [] (ix2 l r : S128x1024.Idx) _ (by intro b; fin_cases b <;> simp [Rect.unit, ix2])]
  exact queries_apply c arg2 harg2 x0 l r

/-- What a query is scored with: its own channels, and the negative of its greatest score. -/
theorem column (r : Fin 1024) :
    Column (blockHead ⟨(i 1).val, hi⟩ x0 x1 x2 x3 x4 x5 x6 x7 x8 x9 x10) ⟨r.val / 128, by omega⟩ ⟨r.val % 128, by omega⟩ ((blockHead ⟨(i 1).val, hi⟩ x0 x1 x2 x3 x4 x5 x6 x7 x8 x9 x10).top ⟨r.val / 128, by omega⟩ ⟨r.val % 128, by omega⟩)
      (kernelRun0_A.sl.v311 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 x4 x5 x9) r := by
  have e1 : ∀ k : Fin 128, (kernelRun0_A.sl.v311 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 x4 x5 x9) (ix2 ⟨128 + k.val, by omega⟩ r)
      = k0_pay43 (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (kernelRun0_A.sl.v188 c arg2 harg2 arg20 x0) (kernelRun0_A.sl.r_15 c arg2 harg2 arg11 harg11 arg20 x0 x9) (kernelRun0_A.sl.r_16 c i arg2 harg2 arg3 harg3 arg20 x0 x1) (harg5.unread x3) (arg21.view.writes (Elt Ideal) arg21.view.junk (kernelRun0_A.sl.HS1_1 c arg6 harg6 x4)) (arg22.view.writes (Elt Ideal) arg22.view.junk (kernelRun0_A.sl.HS2_1 c arg7 harg7 x5)) (k0_pay41 (kernelRun0_A.sl.r_15 c arg2 harg2 arg11 harg11 arg20 x0 x9) (kernelRun0_A.sl.r_16 c i arg2 harg2 arg3 harg3 arg20 x0 x1)) (Scf.trips k0_t1_loop.lb k0_t1_loop.ub k0_t1_loop.st)) (ix2 k r) := by
    intro k
    unfold kernelRun0_A.sl.v311 kernelRun0_A.sl.HS0_2
    rw [View.readCov_eq_canon']
    show View.canon _ _ = _
    rw [canon_at _ _ _ (ix2 k r : S128x1024.Idx) _ (by intro b; fin_cases b <;> simp [Rect.unit, ix2])]
  have e0 : ∀ l : Fin 128, (kernelRun0_A.sl.v311 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 x4 x5 x9) (ix2 ⟨l.val, by omega⟩ r) = (blockHead ⟨(i 1).val, hi⟩ x0 x1 x2 x3 x4 x5 x6 x7 x8 x9 x10).q ⟨r.val / 128, by omega⟩ ⟨r.val % 128, by omega⟩ (chan l) := by
    intro l
    unfold kernelRun0_A.sl.v311 kernelRun0_A.sl.HS0_2
    rw [View.readCov_eq_canon']
    show View.canon _ _ = _
    rw [View.canon_cons_of_not_mem]
    · unfold kernelRun0_A.sl.HS0_1
      rw [canon_at _ _ [] (ix2 l r : S128x1024.Idx) _ (by intro b; fin_cases b <;> simp [Rect.unit, ix2])]
      exact queries_apply c arg2 harg2 x0 l r
    · intro hm
      obtain ⟨j, _, hj⟩ := (LoadRect.mem_set _).mp hm 0
      simp [Rect.unit, ix2] at hj
      omega
  have h5 : ∀ (t : Fin 8064) (l : Fin 64), arg5.view.read (Elt Ideal) (harg5.unread x3) (ix4 0 0 t l) = (blockHead ⟨(i 1).val, hi⟩ x0 x1 x2 x3 x4 x5 x6 x7 x8 x9 x10).kc t l := by
    intro t l; rw [harg5.read_unread]; rfl
  have h21 : ∀ (n : Fin 252) (l : Fin 128), arg21.view.read (Elt Ideal) (arg21.view.writes (Elt Ideal) arg21.view.junk (kernelRun0_A.sl.HS1_1 c arg6 harg6 x4)) (ix2 n l) = (blockHead ⟨(i 1).val, hi⟩ x0 x1 x2 x3 x4 x5 x6 x7 x8 x9 x10).ks n (chan l) := by
    intro n l; rw [View.read_writes_junk_eq_canon]; exact keyScales_apply c arg6 harg6 x4 n l
  have h22 : ∀ (n : Fin 252) (l : Fin 128), arg22.view.read (Elt Ideal) (arg22.view.writes (Elt Ideal) arg22.view.junk (kernelRun0_A.sl.HS2_1 c arg7 harg7 x5)) (ix2 n l) = (blockHead ⟨(i 1).val, hi⟩ x0 x1 x2 x3 x4 x5 x6 x7 x8 x9 x10).kz n (chan l) := by
    intro n l; rw [View.read_writes_junk_eq_canon]; exact keyZeros_apply c arg7 harg7 x5 n l
  have hq := v188_apply c i arg2 harg2 arg20 x0 x1 x2 x3 x4 x5 x6 x7 x8 x9 x10 hi r
  have hkt : ∀ t c : Fin 128, View.readAt (Elt Ideal) arg11.view (Rect.unit (s := S1x1x128x128) ![0, 0, 0, 0] S1x1x128x128.size inb_S1x1x128x128_S1x1x128x128_0_0_0_0).toLoadRect (harg11.unread x9) (ix4 0 0 t c) = (blockHead ⟨(i 1).val, hi⟩ x0 x1 x2 x3 x4 x5 x6 x7 x8 x9 x10).kt t c :=
    fun t c => load_apply arg11 harg11 x9 _ _ _ (by intro b; fin_cases b <;> simp [Rect.unit, ix4])
  have hm : (Finset.univ.sup fun e : Fin 8 => (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (kernelRun0_A.sl.v188 c arg2 harg2 arg20 x0) (kernelRun0_A.sl.r_15 c arg2 harg2 arg11 harg11 arg20 x0 x9) (kernelRun0_A.sl.r_16 c i arg2 harg2 arg3 harg3 arg20 x0 x1) (harg5.unread x3) (arg21.view.writes (Elt Ideal) arg21.view.junk (kernelRun0_A.sl.HS1_1 c arg6 harg6 x4)) (arg22.view.writes (Elt Ideal) arg22.view.junk (kernelRun0_A.sl.HS2_1 c arg7 harg7 x5)) (k0_pay41 (kernelRun0_A.sl.r_15 c arg2 harg2 arg11 harg11 arg20 x0 x9) (kernelRun0_A.sl.r_16 c i arg2 harg2 arg3 harg3 arg20 x0 x1)) (Scf.trips k0_t1_loop.lb k0_t1_loop.ub k0_t1_loop.st)) (ix2 e r)) = (blockHead ⟨(i 1).val, hi⟩ x0 x1 x2 x3 x4 x5 x6 x7 x8 x9 x10).top ⟨r.val / 128, by omega⟩ ⟨r.val % 128, by omega⟩ := by
    refine eq_of_forall_ge_iff fun b => ?_
    rw [Finset.sup_le_iff, ← top_le]
    simp only [Finset.mem_univ, forall_true_left]
    refine forall_congr' fun e => ?_
    rw [trips_eq]
    refine (loop_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (blockHead ⟨(i 1).val, hi⟩ x0 x1 x2 x3 x4 x5 x6 x7 x8 x9 x10) _ _ r _ hq _ _ _ _ _ h5 h21 h22 _ e b 63 le_rfl).trans ?_
    exact and_congr (start_apply (blockHead ⟨(i 1).val, hi⟩ x0 x1 x2 x3 x4 x5 x6 x7 x8 x9 x10) _ _ r _ hq rfl _ hkt _ (keyNew_apply c i arg3 harg3 x0 x1 x2 x3 x4 x5 x6 x7 x8 x9 x10 hi) e b) Iff.rfl
  obtain ⟨a0, a1, a2⟩ := pay43_apply r _ _ hm
  exact ⟨e0, (e1 0).trans a0, (e1 1).trans a1, (e1 2).trans a2⟩

end Cert.Proof
-- ==== Proof.Attention.lean ====
/- The run's attention at an index. -/
module

public import proofs.«01_k».proof.Proof.Block

@[expose] public section

noncomputable section

namespace Cert.Proof

open Idealize.ShloMosaic Idealize.ShloMosaic.TcCoe Idealize.ShloMosaic.Pointwise Cert.KernelIdeal Cert.KernelIdeal.Gen

variable [Cert.KernelIdeal.Facts] (c : Dev nD) (i : grid0.Coords) (arg2 : Memref sig .tc .vmem S1x128x1024 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x1x8064x64 .i8) (harg5 : arg5.IsWhole) (arg6 : Memref sig .tc .vmem S1x1x252x128 .bf16) (harg6 : arg6.IsWhole) (arg7 : Memref sig .tc .vmem S1x1x252x128 .bf16) (harg7 : arg7.IsWhole) (arg8 : Memref sig .tc .vmem S1x1x8064x64 .i8) (harg8 : arg8.IsWhole) (arg9 : Memref sig .tc .vmem S1x1x8064x4 .bf16) (harg9 : arg9.IsWhole) (arg10 : Memref sig .tc .vmem S1x1x8064x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x128x1024 .f32) (harg13 : arg13.IsWhole) (arg14 : Memref sig .tc .vmem S1x1x128x64 .i8) (harg14 : arg14.IsWhole) (arg15 : Memref sig .tc .vmem S1x1x4x128 .bf16) (harg15 : arg15.IsWhole) (arg16 : Memref sig .tc .vmem S1x1x4x128 .bf16) (harg16 : arg16.IsWhole) (arg17 : Memref sig .tc .vmem S1x1x128x64 .i8) (harg17 : arg17.IsWhole) (arg18 : Memref sig .tc .vmem S1x1x128x4 .bf16) (harg18 : arg18.IsWhole) (arg19 : Memref sig .tc .vmem S1x1x128x4 .bf16) (harg19 : arg19.IsWhole) (arg20 : Memref sig .tc .vmem S256x1024 .bf16) (harg20 : arg20.IsWhole) (arg21 : Memref sig .tc .vmem S252x128 .f32) (harg21 : arg21.IsWhole) (arg22 : Memref sig .tc .vmem S252x128 .f32) (harg22 : arg22.IsWhole)
  (x0 : Vec Ideal S1x128x1024 .f32) (x1 x2 : Vec Ideal S1x256x128 .f32) (x3 : Vec Ideal S1x1x8064x64 .i8) (x4 x5 : Vec Ideal S1x1x252x128 .bf16)
  (x6 : Vec Ideal S1x1x8064x64 .i8) (x7 x8 : Vec Ideal S1x1x8064x4 .bf16) (x9 x10 : Vec Ideal S1x1x128x128 .bf16)
  (hi : (i 1).val < 2)

theorem loaded : Loaded (blockHead ⟨(i 1).val, hi⟩ x0 x1 x2 x3 x4 x5 x6 x7 x8 x9 x10) (ldCodes arg5 harg5 x3) (ldRow arg21 (kernelRun0_A.sl.HS1_1 c arg6 harg6 x4)) (ldRow arg22 (kernelRun0_A.sl.HS2_1 c arg7 harg7 x5))
    (ldCodes arg8 harg8 x6) (ldScales arg9 harg9 x7) (ldScales arg10 harg10 x8) where
  hkl j hj t l := ldCodes_apply arg5 harg5 x3 j hj t l
  hks n hn l := (ldRow_apply arg21 _ n hn l).trans (keyScales_apply c arg6 harg6 x4 ⟨n, hn⟩ l)
  hkz n hn l := (ldRow_apply arg22 _ n hn l).trans (keyZeros_apply c arg7 harg7 x5 ⟨n, hn⟩ l)
  hvl j hj t l := ldCodes_apply arg8 harg8 x6 j hj t l
  hsl j hj t l := ldScales_apply arg9 harg9 x7 j hj t l
  hzl j hj t l := ldScales_apply arg10 harg10 x8 j hj t l

/-- The attention, a channel to a lane and a query to a column. -/
theorem attention_apply (l : Fin 128) (r : Fin 1024) :
    kernelRun0_A.sl.r_458 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (ix2 l r) = (blockHead ⟨(i 1).val, hi⟩ x0 x1 x2 x3 x4 x5 x6 x7 x8 x9 x10).out ⟨r.val / 128, by omega⟩ ⟨r.val % 128, by omega⟩ (chan l) := by
  unfold kernelRun0_A.sl.r_458 kernelRun0_A.sl.r_454 kernelRun0_A.sl.r_455
  rw [acc_word c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10, sum_word c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10]
  exact out_apply (blockHead ⟨(i 1).val, hi⟩ x0 x1 x2 x3 x4 x5 x6 x7 x8 x9 x10) _ _ r (kernelRun0_A.sl.v311 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 x4 x5 x9) (column c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi r)
    (loaded c i arg5 harg5 arg6 harg6 arg7 harg7 arg8 harg8 arg9 harg9 arg10 harg10 arg21 arg22 x0 x1 x2 x3 x4 x5 x6 x7 x8 x9 x10 hi)
    _ (fun t l => load_apply arg5 harg5 x3 _ _ _ (by intro b; fin_cases b <;> simp [Rect.unit, ix4]))
    _ (fun t l => load_apply arg8 harg8 x6 _ _ _ (by intro b; fin_cases b <;> simp [Rect.unit, ix4]))
    _ (fun t l => load_apply arg9 harg9 x7 _ _ _ (by intro b; fin_cases b <;> simp [Rect.unit, ix4]))
    _ (fun t l => load_apply arg10 harg10 x8 _ _ _ (by intro b; fin_cases b <;> simp [Rect.unit, ix4]))
    _ (pay36_apply (blockHead ⟨(i 1).val, hi⟩ x0 x1 x2 x3 x4 x5 x6 x7 x8 x9 x10) _ (fun t c => load_apply arg11 harg11 x9 _ _ _ (by intro b; fin_cases b <;> simp [Rect.unit, ix4])))
    _ (fun l t => pay37_apply (blockHead ⟨(i 1).val, hi⟩ x0 x1 x2 x3 x4 x5 x6 x7 x8 x9 x10) _ (fun t c => load_apply arg12 harg12 x10 _ _ _ (by intro b; fin_cases b <;> simp [Rect.unit, ix4])) t l)
    rfl _ (keyNew_apply c i arg3 harg3 x0 x1 x2 x3 x4 x5 x6 x7 x8 x9 x10 hi) _ (fun l t => valNew_apply c i arg4 harg4 x0 x1 x2 x3 x4 x5 x6 x7 x8 x9 x10 hi t l) l

end Cert.Proof
-- ==== Proof.Out.lean ====
/- What one grid point leaves in the seven output blocks. -/
module

public import proofs.«01_k».proof.Proof.Attention
public import proofs.«01_k».proof.Proof.Gen.KernelIdeal.Frame

@[expose] public section

noncomputable section

namespace Cert.Proof

open Idealize.ShloMosaic Idealize.ShloMosaic.TcCoe Idealize.ShloMosaic.Pointwise Cert.KernelIdeal Cert.KernelIdeal.Gen

variable [Cert.KernelIdeal.Facts]

/-- The lane the gather takes channel `c` from. -/
theorem gather_lane (s c : Fin 128) :
    (Scalar.select (IntOp.cmpi CmpIPredicate.slt (k0_pay502 (ix2 s c)) 0#32) (IntOp.addi (k0_pay502 (ix2 s c)) 128#32) (k0_pay502 (ix2 s c))).toNat % 128 = (lane c).val := by
  pointwise [k0_pay502]
  revert c
  decide

/-- Eight heads' worth of attention back in channel order: each tile is the transposed columns of one head. -/
theorem tiles (w : FVec Ideal S128x1024 .f32) (s c : Fin 128) :
    (k0_pay3 w k0_pay502) (ix3 0 s c) = w (ix2 (lane c) ⟨896 + s.val, by omega⟩)
    ∧ (k0_pay2 w k0_pay502) (ix3 0 s c) = w (ix2 (lane c) ⟨768 + s.val, by omega⟩)
    ∧ (k0_pay1 (k0_pay509 k0_pay502 (k0_pay508 w) 0#32)) (ix3 0 s c) = w (ix2 (lane c) ⟨640 + s.val, by omega⟩)
    ∧ (k0_pay507 w k0_pay502) (ix3 0 s c) = w (ix2 (lane c) ⟨512 + s.val, by omega⟩)
    ∧ (k0_pay506 w k0_pay502) (ix3 0 s c) = w (ix2 (lane c) ⟨384 + s.val, by omega⟩)
    ∧ (k0_pay505 w k0_pay502) (ix3 0 s c) = w (ix2 (lane c) ⟨256 + s.val, by omega⟩) := by
  refine ⟨?_, ?_, ?_, ?_, ?_, ?_⟩
  · pointwise [k0_pay3]; exact congrArg (fun l => w (ix2 l _)) (Fin.ext (gather_lane s c))
  · pointwise [k0_pay2]; exact congrArg (fun l => w (ix2 l _)) (Fin.ext (gather_lane s c))
  · pointwise [k0_pay1, k0_pay509, k0_pay508]; exact congrArg (fun l => w (ix2 l _)) (Fin.ext (gather_lane s c))
  · pointwise [k0_pay507]; exact congrArg (fun l => w (ix2 l _)) (Fin.ext (gather_lane s c))
  · pointwise [k0_pay506]; exact congrArg (fun l => w (ix2 l _)) (Fin.ext (gather_lane s c))
  · pointwise [k0_pay505]; exact congrArg (fun l => w (ix2 l _)) (Fin.ext (gather_lane s c))

theorem tiles' (v : FVec Ideal S128x128 .bf16) (a : FVec Ideal S128x1024 .f32) (b : FVec Ideal S8x1024 .f32) (d : FVec Ideal S128x1024 .f32) (e : FVec Ideal S16x8x1024 .f32) (s c : Fin 128) :
    k0_pay504 v a b d e (ix3 0 s c) = k0_pay501 v a b d e (ix2 (lane c) ⟨128 + s.val, by omega⟩)
    ∧ k0_pay503 v a b d e (ix3 0 s c) = k0_pay501 v a b d e (ix2 (lane c) ⟨s.val, by omega⟩) := by
  refine ⟨?_, ?_⟩
  · unfold k0_pay504; generalize k0_pay501 v a b d e = w; pointwise []; exact congrArg (fun l => w (ix2 l _)) (Fin.ext (gather_lane s c))
  · unfold k0_pay503; generalize k0_pay501 v a b d e = w; pointwise []; exact congrArg (fun l => w (ix2 l _)) (Fin.ext (gather_lane s c))

/-- The block of the attention, as a function of its index. -/
def yBlock (h : Head) : S1x128x1024.Idx → EReal := fun y => h.out ⟨(y 2).val / 128, by have := (y 2).isLt; simp at this; omega⟩ (y 1) ⟨(y 2).val % 128, by omega⟩

variable (c : Dev nD) (i : grid0.Coords) (arg2 : Memref sig .tc .vmem S1x128x1024 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x1x8064x64 .i8) (harg5 : arg5.IsWhole) (arg6 : Memref sig .tc .vmem S1x1x252x128 .bf16) (harg6 : arg6.IsWhole) (arg7 : Memref sig .tc .vmem S1x1x252x128 .bf16) (harg7 : arg7.IsWhole) (arg8 : Memref sig .tc .vmem S1x1x8064x64 .i8) (harg8 : arg8.IsWhole) (arg9 : Memref sig .tc .vmem S1x1x8064x4 .bf16) (harg9 : arg9.IsWhole) (arg10 : Memref sig .tc .vmem S1x1x8064x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x128x1024 .f32) (harg13 : arg13.IsWhole) (arg14 : Memref sig .tc .vmem S1x1x128x64 .i8) (harg14 : arg14.IsWhole) (arg15 : Memref sig .tc .vmem S1x1x4x128 .bf16) (harg15 : arg15.IsWhole) (arg16 : Memref sig .tc .vmem S1x1x4x128 .bf16) (harg16 : arg16.IsWhole) (arg17 : Memref sig .tc .vmem S1x1x128x64 .i8) (harg17 : arg17.IsWhole) (arg18 : Memref sig .tc .vmem S1x1x128x4 .bf16) (harg18 : arg18.IsWhole) (arg19 : Memref sig .tc .vmem S1x1x128x4 .bf16) (harg19 : arg19.IsWhole) (arg20 : Memref sig .tc .vmem S256x1024 .bf16) (harg20 : arg20.IsWhole) (arg21 : Memref sig .tc .vmem S252x128 .f32) (harg21 : arg21.IsWhole) (arg22 : Memref sig .tc .vmem S252x128 .f32) (harg22 : arg22.IsWhole)
  (x0 : Vec Ideal S1x128x1024 .f32) (x1 x2 : Vec Ideal S1x256x128 .f32) (x3 : Vec Ideal S1x1x8064x64 .i8) (x4 x5 : Vec Ideal S1x1x252x128 .bf16)
  (x6 : Vec Ideal S1x1x8064x64 .i8) (x7 x8 : Vec Ideal S1x1x8064x4 .bf16) (x9 x10 : Vec Ideal S1x1x128x128 .bf16)
  (hi : (i 1).val < 2)

theorem yTile (off : ℕ) (ho : off + 128 ≤ 1024) (h128 : off % 128 = 0) (inb) (p : FVec Ideal S1x128x128 .f32)
    (hp : ∀ s k : Fin 128, p (ix3 0 s k) = (kernelRun0_A.sl.r_458 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) (ix2 (lane k) ⟨off + s.val, by omega⟩)) (x : S1x128x128.Idx) :
    p x = yBlock (blockHead ⟨(i 1).val, hi⟩ x0 x1 x2 x3 x4 x5 x6 x7 x8 x9 x10) ((Rect.unit (s := S1x128x1024) ![0, 0, off] S1x128x128.size inb).emb x) := by
  obtain ⟨s, k, rfl⟩ : ∃ s k : Fin 128, x = ix3 0 s k := ⟨x 1, x 2, (eq_ix3 x).trans (congrArg (fun z => ix3 z (x 1) (x 2)) (Subsingleton.elim (α := Fin 1) _ _))⟩
  rw [hp, attention_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi, chan_lane]
  have h1 : (((Rect.unit (s := S1x128x1024) ![0, 0, off] S1x128x128.size inb).emb (ix3 0 s k)) 1).val = 0 + 1 * s.val := rfl
  have h2 : (((Rect.unit (s := S1x128x1024) ![0, 0, off] S1x128x128.size inb).emb (ix3 0 s k)) 2).val = off + 1 * k.val := rfl
  refine congr (congr (congrArg (blockHead ⟨(i 1).val, hi⟩ x0 x1 x2 x3 x4 x5 x6 x7 x8 x9 x10).out (Fin.ext ?_)) (Fin.ext ?_)) (Fin.ext ?_)
  · show (off + s.val) / 128 = _ / 128
    rw [h2]; omega
  · show (off + s.val) % 128 = _
    rw [h1]; omega
  · show k.val = _ % 128
    rw [h2]; omega

set_option maxRecDepth 100000 in
theorem out11_apply (s : Fin 128) (g : Fin 8) (k : Fin 128) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (ix3 0 s ⟨128 * g.val + k.val, by omega⟩) = (blockHead ⟨(i 1).val, hi⟩ x0 x1 x2 x3 x4 x5 x6 x7 x8 x9 x10).out g s k := by
  have hy := cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10
  unfold out0_A_11
  rw [View.read_writes_junk_eq_canon]
  refine (View.canon_apply_of_pieces (yBlock (blockHead ⟨(i 1).val, hi⟩ x0 x1 x2 x3 x4 x5 x6 x7 x8 x9 x10)) _ ?_ _ (hy _)).trans ?_
  rotate_left
  · refine congr (congr (congrArg (blockHead ⟨(i 1).val, hi⟩ x0 x1 x2 x3 x4 x5 x6 x7 x8 x9 x10).out (Fin.ext ?_)) (Fin.ext rfl)) (Fin.ext ?_)
    · show (128 * g.val + k.val) / 128 = g.val
      omega
    · show (128 * g.val + k.val) % 128 = k.val
      omega
  · unfold kernelRun0_A
    dsimp only
    simp only [List.forall_mem_cons]
    refine ⟨?_, ?_, ?_, ?_, ?_, ?_, ?_, ?_, fun _ h => absurd h List.not_mem_nil⟩
    · exact yTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi 896 (by omega) (by omega) _ _ fun s k => (tiles (kernelRun0_A.sl.r_458 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) s k).1
    · exact yTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi 768 (by omega) (by omega) _ _ fun s k => (tiles (kernelRun0_A.sl.r_458 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) s k).2.1
    · exact yTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi 640 (by omega) (by omega) _ _ fun s k => (tiles (kernelRun0_A.sl.r_458 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) s k).2.2.1
    · exact yTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi 512 (by omega) (by omega) _ _ fun s k => (tiles (kernelRun0_A.sl.r_458 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) s k).2.2.2.1
    · exact yTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi 384 (by omega) (by omega) _ _ fun s k => (tiles (kernelRun0_A.sl.r_458 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) s k).2.2.2.2.1
    · exact yTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi 256 (by omega) (by omega) _ _ fun s k => (tiles (kernelRun0_A.sl.r_458 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10) s k).2.2.2.2.2
    · exact yTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi 128 (by omega) (by omega) _ _ fun s k => (tiles' _ _ _ _ _ s k).1
    · exact yTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 hi 0 (by omega) (by omega) _ _ fun s k => by rw [(tiles' _ _ _ _ _ s k).2]; exact congrArg (fun z => k0_pay501 _ _ _ _ _ (ix2 _ z)) (Fin.ext (Nat.zero_add _).symm)

theorem out12_apply (t : Fin 128) (j : Fin 64) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (ix4 0 0 t j) = (blockHead ⟨(i 1).val, hi⟩ x0 x1 x2 x3 x4 x5 x6 x7 x8 x9 x10).kbyte t j := by
  unfold out0_A_12
  rw [View.read_writes_junk_eq_canon]
  show View.canon (kernelRun0_A.sl.H12_1 c i arg3 harg3 x1) _ = _
  unfold kernelRun0_A.sl.H12_1
  rw [canon_at _ _ [] (ix4 0 0 t j : S1x1x128x64.Idx) _ (by intro b; fin_cases b <;> simp [Rect.unit, ix4])]
  exact pay20_apply (blockHead ⟨(i 1).val, hi⟩ x0 x1 x2 x3 x4 x5 x6 x7 x8 x9 x10) _ (fun t c => strided_apply i arg3 harg3 x1 _ hi t c) t j

theorem out13_apply (g : Fin 4) (k : Fin 128) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (ix4 0 0 g k) = (blockHead ⟨(i 1).val, hi⟩ x0 x1 x2 x3 x4 x5 x6 x7 x8 x9 x10).kscale g k := by
  unfold out0_A_13
  rw [View.read_writes_junk_eq_canon]
  show View.canon (kernelRun0_A.sl.H13_1 c i arg3 harg3 x1) _ = _
  unfold kernelRun0_A.sl.H13_1
  rw [canon_at _ _ [] (ix4 0 0 g k : S1x1x4x128.Idx) _ (by intro b; fin_cases b <;> simp [Rect.unit, ix4])]
  exact pay21_apply (blockHead ⟨(i 1).val, hi⟩ x0 x1 x2 x3 x4 x5 x6 x7 x8 x9 x10) _ (fun t c => strided_apply i arg3 harg3 x1 _ hi t c) g k

theorem out14_apply (g : Fin 4) (k : Fin 128) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (ix4 0 0 g k) = (blockHead ⟨(i 1).val, hi⟩ x0 x1 x2 x3 x4 x5 x6 x7 x8 x9 x10).kzero g k := by
  unfold out0_A_14
  rw [View.read_writes_junk_eq_canon]
  show View.canon (kernelRun0_A.sl.H14_1 c i arg3 harg3 x1) _ = _
  unfold kernelRun0_A.sl.H14_1
  rw [canon_at _ _ [] (ix4 0 0 g k : S1x1x4x128.Idx) _ (by intro b; fin_cases b <;> simp [Rect.unit, ix4])]
  exact pay22_apply (blockHead ⟨(i 1).val, hi⟩ x0 x1 x2 x3 x4 x5 x6 x7 x8 x9 x10) _ (fun t c => strided_apply i arg3 harg3 x1 _ hi t c) g k

theorem out15_apply (t : Fin 128) (j : Fin 64) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (ix4 0 0 t j) = (blockHead ⟨(i 1).val, hi⟩ x0 x1 x2 x3 x4 x5 x6 x7 x8 x9 x10).vbyte t j := by
  unfold out0_A_15
  rw [View.read_writes_junk_eq_canon]
  show View.canon (kernelRun0_A.sl.H15_1 c i arg4 harg4 x2) _ = _
  unfold kernelRun0_A.sl.H15_1
  rw [canon_at _ _ [] (ix4 0 0 t j : S1x1x128x64.Idx) _ (by intro b; fin_cases b <;> simp [Rect.unit, ix4])]
  exact pay29_apply (blockHead ⟨(i 1).val, hi⟩ x0 x1 x2 x3 x4 x5 x6 x7 x8 x9 x10) _ (fun t c => strided_apply i arg4 harg4 x2 _ hi t c) t j

theorem out16_apply (t : Fin 128) (g : Fin 4) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (ix4 0 0 t g) = (blockHead ⟨(i 1).val, hi⟩ x0 x1 x2 x3 x4 x5 x6 x7 x8 x9 x10).vscale t g := by
  unfold out0_A_16
  rw [View.read_writes_junk_eq_canon]
  show View.canon (kernelRun0_A.sl.H16_1 c i arg4 harg4 x2) _ = _
  unfold kernelRun0_A.sl.H16_1
  rw [canon_at _ _ [] (ix4 0 0 t g : S1x1x128x4.Idx) _ (by intro b; fin_cases b <;> simp [Rect.unit, ix4])]
  exact pay32_apply (blockHead ⟨(i 1).val, hi⟩ x0 x1 x2 x3 x4 x5 x6 x7 x8 x9 x10) _ (fun t c => strided_apply i arg4 harg4 x2 _ hi t c) t g

theorem out17_apply (t : Fin 128) (g : Fin 4) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 (ix4 0 0 t g) = (blockHead ⟨(i 1).val, hi⟩ x0 x1 x2 x3 x4 x5 x6 x7 x8 x9 x10).vzero t g := by
  unfold out0_A_17
  rw [View.read_writes_junk_eq_canon]
  show View.canon (kernelRun0_A.sl.H17_1 c i arg4 harg4 x2) _ = _
  unfold kernelRun0_A.sl.H17_1
  rw [canon_at _ _ [] (ix4 0 0 t g : S1x1x128x4.Idx) _ (by intro b; fin_cases b <;> simp [Rect.unit, ix4])]
  exact pay33_apply (blockHead ⟨(i 1).val, hi⟩ x0 x1 x2 x3 x4 x5 x6 x7 x8 x9 x10) _ (fun t c => strided_apply i arg4 harg4 x2 _ hi t c) t g

end Cert.Proof
-- ==== Proof.Arrays.lean ====
/- The kernel's result arrays, from what each grid point writes. -/
module

public import proofs.«01_k».proof.Proof.Reads
public import proofs.«01_k».proof.Proof.Out

@[expose] public section

noncomputable section

namespace Cert.Proof

open Idealize.ShloMosaic Idealize.ShloMosaic.TcCoe Idealize.ShloMosaic.Pointwise Cert.KernelIdeal Cert.KernelIdeal.Gen
open Idealize.SL.Sem

variable [Cert.KernelIdeal.Facts] (m : (ℓ : Loc nD τ sig) → Buf (Elt Ideal) ℓ) (c : Dev nD)

theorem point12 (t : Fin cfg0.N) (hb : (grid0.coords t 0).val < 16) (hi : (grid0.coords t 1).val < 2) (a : Fin 128) (b : Fin 64) :
    (outsAt0 m c t).2.1 (ix4 0 0 a b : S1x1x128x64.Idx)
      = ((kernelArgs m c).head ⟨(grid0.coords t 0).val, hb⟩ ⟨(grid0.coords t 1).val, hi⟩).kbyte a b := by
  rw [← point_head m c t hb hi]
  unfold outsAt0
  dsimp only
  exact out12_apply c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
        (iblk m c 7 t) (iblk m c 8 t) (iblk m c 9 t) (iblk m c 10 t) hi a b

/-- The kernel's bytes of the new keys. -/
theorem array12 : (dats m 0 c).arrAt 12 cfg0.N = (kernelArgs m c).kBytes := by
  refine (dats m 0 c).arrAt_eq_of_covers 12 _ (by decide +kernel) fun t hf y => ?_
  have hb : (grid0.coords t 0).val < 16 := (grid0.coords t 0).isLt
  have hi : (grid0.coords t 1).val < 2 := (grid0.coords t 1).isLt
  rw [after0_12]
  have key : ∀ z : S1x1x128x64.Idx, (outsAt0 m c t).2.1 z = (kernelArgs m c).kBytes (((cfg0.win 12).blk t).view.emb z) := by
    intro z
    have e : z = ix4 0 0 (z 2) (z 3) := by
      funext k
      fin_cases k
      · exact Fin.ext (Nat.lt_one_iff.mp (z 0).isLt)
      · exact Fin.ext (Nat.lt_one_iff.mp (z 1).isLt)
      · rfl
      · rfl
    rw [e]
    refine (point12 m c t hb hi (z 2) (z 3)).trans ?_
    have e2 : (((cfg0.win 12).blk t).view.emb (ix4 0 0 (z 2) (z 3)) : S16x2x128x64.Idx)
        = ix4 ⟨(grid0.coords t 0).val, hb⟩ ⟨(grid0.coords t 1).val, hi⟩ (z 2) (z 3) := by
      have hw : (win0 12).index t = ![(grid0.coords t 0).val, (grid0.coords t 1).val, 0, 0] := index12 t
      have w0 : (win0 12).index t 0 = (grid0.coords t 0).val := congrFun hw 0
      have w1 : (win0 12).index t 1 = (grid0.coords t 1).val := congrFun hw 1
      have w2 : (win0 12).index t 2 = 0 := congrFun hw 2
      have w3 : (win0 12).index t 3 = 0 := congrFun hw 3
      blk_ext
      · exact w0
      · exact w1
      · exact (congrArg (fun n => n * 128 + (z 2).val) w2).trans (by omega)
      · exact (congrArg (fun n => n * 64 + (z 3).val) w3).trans (by omega)
    exact (congrArg (kernelArgs m c).kBytes e2).symm
  exact key y

theorem point13 (t : Fin cfg0.N) (hb : (grid0.coords t 0).val < 16) (hi : (grid0.coords t 1).val < 2) (a : Fin 4) (b : Fin 128) :
    (outsAt0 m c t).2.2.1 (ix4 0 0 a b : S1x1x4x128.Idx)
      = ((kernelArgs m c).head ⟨(grid0.coords t 0).val, hb⟩ ⟨(grid0.coords t 1).val, hi⟩).kscale a b := by
  rw [← point_head m c t hb hi]
  unfold outsAt0
  dsimp only
  exact out13_apply c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
        (iblk m c 7 t) (iblk m c 8 t) (iblk m c 9 t) (iblk m c 10 t) hi a b

/-- The kernel's scales of the new keys. -/
theorem array13 : (dats m 0 c).arrAt 13 cfg0.N = (kernelArgs m c).kS := by
  refine (dats m 0 c).arrAt_eq_of_covers 13 _ (by decide +kernel) fun t hf y => ?_
  have hb : (grid0.coords t 0).val < 16 := (grid0.coords t 0).isLt
  have hi : (grid0.coords t 1).val < 2 := (grid0.coords t 1).isLt
  rw [after0_13]
  have key : ∀ z : S1x1x4x128.Idx, (outsAt0 m c t).2.2.1 z = (kernelArgs m c).kS (((cfg0.win 13).blk t).view.emb z) := by
    intro z
    have e : z = ix4 0 0 (z 2) (z 3) := by
      funext k
      fin_cases k
      · exact Fin.ext (Nat.lt_one_iff.mp (z 0).isLt)
      · exact Fin.ext (Nat.lt_one_iff.mp (z 1).isLt)
      · rfl
      · rfl
    rw [e]
    refine (point13 m c t hb hi (z 2) (z 3)).trans ?_
    have e2 : (((cfg0.win 13).blk t).view.emb (ix4 0 0 (z 2) (z 3)) : S16x2x4x128.Idx)
        = ix4 ⟨(grid0.coords t 0).val, hb⟩ ⟨(grid0.coords t 1).val, hi⟩ (z 2) (z 3) := by
      have hw : (win0 13).index t = ![(grid0.coords t 0).val, (grid0.coords t 1).val, 0, 0] := index13 t
      have w0 : (win0 13).index t 0 = (grid0.coords t 0).val := congrFun hw 0
      have w1 : (win0 13).index t 1 = (grid0.coords t 1).val := congrFun hw 1
      have w2 : (win0 13).index t 2 = 0 := congrFun hw 2
      have w3 : (win0 13).index t 3 = 0 := congrFun hw 3
      blk_ext
      · exact w0
      · exact w1
      · exact (congrArg (fun n => n * 4 + (z 2).val) w2).trans (by omega)
      · exact (congrArg (fun n => n * 128 + (z 3).val) w3).trans (by omega)
    exact (congrArg (kernelArgs m c).kS e2).symm
  exact key y

theorem point14 (t : Fin cfg0.N) (hb : (grid0.coords t 0).val < 16) (hi : (grid0.coords t 1).val < 2) (a : Fin 4) (b : Fin 128) :
    (outsAt0 m c t).2.2.2.1 (ix4 0 0 a b : S1x1x4x128.Idx)
      = ((kernelArgs m c).head ⟨(grid0.coords t 0).val, hb⟩ ⟨(grid0.coords t 1).val, hi⟩).kzero a b := by
  rw [← point_head m c t hb hi]
  unfold outsAt0
  dsimp only
  exact out14_apply c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
        (iblk m c 7 t) (iblk m c 8 t) (iblk m c 9 t) (iblk m c 10 t) hi a b

/-- The kernel's zero points of the new keys. -/
theorem array14 : (dats m 0 c).arrAt 14 cfg0.N = (kernelArgs m c).kZ := by
  refine (dats m 0 c).arrAt_eq_of_covers 14 _ (by decide +kernel) fun t hf y => ?_
  have hb : (grid0.coords t 0).val < 16 := (grid0.coords t 0).isLt
  have hi : (grid0.coords t 1).val < 2 := (grid0.coords t 1).isLt
  rw [after0_14]
  have key : ∀ z : S1x1x4x128.Idx, (outsAt0 m c t).2.2.2.1 z = (kernelArgs m c).kZ (((cfg0.win 14).blk t).view.emb z) := by
    intro z
    have e : z = ix4 0 0 (z 2) (z 3) := by
      funext k
      fin_cases k
      · exact Fin.ext (Nat.lt_one_iff.mp (z 0).isLt)
      · exact Fin.ext (Nat.lt_one_iff.mp (z 1).isLt)
      · rfl
      · rfl
    rw [e]
    refine (point14 m c t hb hi (z 2) (z 3)).trans ?_
    have e2 : (((cfg0.win 14).blk t).view.emb (ix4 0 0 (z 2) (z 3)) : S16x2x4x128.Idx)
        = ix4 ⟨(grid0.coords t 0).val, hb⟩ ⟨(grid0.coords t 1).val, hi⟩ (z 2) (z 3) := by
      have hw : (win0 14).index t = ![(grid0.coords t 0).val, (grid0.coords t 1).val, 0, 0] := index14 t
      have w0 : (win0 14).index t 0 = (grid0.coords t 0).val := congrFun hw 0
      have w1 : (win0 14).index t 1 = (grid0.coords t 1).val := congrFun hw 1
      have w2 : (win0 14).index t 2 = 0 := congrFun hw 2
      have w3 : (win0 14).index t 3 = 0 := congrFun hw 3
      blk_ext
      · exact w0
      · exact w1
      · exact (congrArg (fun n => n * 4 + (z 2).val) w2).trans (by omega)
      · exact (congrArg (fun n => n * 128 + (z 3).val) w3).trans (by omega)
    exact (congrArg (kernelArgs m c).kZ e2).symm
  exact key y

theorem point15 (t : Fin cfg0.N) (hb : (grid0.coords t 0).val < 16) (hi : (grid0.coords t 1).val < 2) (a : Fin 128) (b : Fin 64) :
    (outsAt0 m c t).2.2.2.2.1 (ix4 0 0 a b : S1x1x128x64.Idx)
      = ((kernelArgs m c).head ⟨(grid0.coords t 0).val, hb⟩ ⟨(grid0.coords t 1).val, hi⟩).vbyte a b := by
  rw [← point_head m c t hb hi]
  unfold outsAt0
  dsimp only
  exact out15_apply c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
        (iblk m c 7 t) (iblk m c 8 t) (iblk m c 9 t) (iblk m c 10 t) hi a b

/-- The kernel's bytes of the new values. -/
theorem array15 : (dats m 0 c).arrAt 15 cfg0.N = (kernelArgs m c).vBytes := by
  refine (dats m 0 c).arrAt_eq_of_covers 15 _ (by decide +kernel) fun t hf y => ?_
  have hb : (grid0.coords t 0).val < 16 := (grid0.coords t 0).isLt
  have hi : (grid0.coords t 1).val < 2 := (grid0.coords t 1).isLt
  rw [after0_15]
  have key : ∀ z : S1x1x128x64.Idx, (outsAt0 m c t).2.2.2.2.1 z = (kernelArgs m c).vBytes (((cfg0.win 15).blk t).view.emb z) := by
    intro z
    have e : z = ix4 0 0 (z 2) (z 3) := by
      funext k
      fin_cases k
      · exact Fin.ext (Nat.lt_one_iff.mp (z 0).isLt)
      · exact Fin.ext (Nat.lt_one_iff.mp (z 1).isLt)
      · rfl
      · rfl
    rw [e]
    refine (point15 m c t hb hi (z 2) (z 3)).trans ?_
    have e2 : (((cfg0.win 15).blk t).view.emb (ix4 0 0 (z 2) (z 3)) : S16x2x128x64.Idx)
        = ix4 ⟨(grid0.coords t 0).val, hb⟩ ⟨(grid0.coords t 1).val, hi⟩ (z 2) (z 3) := by
      have hw : (win0 15).index t = ![(grid0.coords t 0).val, (grid0.coords t 1).val, 0, 0] := index15 t
      have w0 : (win0 15).index t 0 = (grid0.coords t 0).val := congrFun hw 0
      have w1 : (win0 15).index t 1 = (grid0.coords t 1).val := congrFun hw 1
      have w2 : (win0 15).index t 2 = 0 := congrFun hw 2
      have w3 : (win0 15).index t 3 = 0 := congrFun hw 3
      blk_ext
      · exact w0
      · exact w1
      · exact (congrArg (fun n => n * 128 + (z 2).val) w2).trans (by omega)
      · exact (congrArg (fun n => n * 64 + (z 3).val) w3).trans (by omega)
    exact (congrArg (kernelArgs m c).vBytes e2).symm
  exact key y

theorem point16 (t : Fin cfg0.N) (hb : (grid0.coords t 0).val < 16) (hi : (grid0.coords t 1).val < 2) (a : Fin 128) (b : Fin 4) :
    (outsAt0 m c t).2.2.2.2.2.1 (ix4 0 0 a b : S1x1x128x4.Idx)
      = ((kernelArgs m c).head ⟨(grid0.coords t 0).val, hb⟩ ⟨(grid0.coords t 1).val, hi⟩).vscale a b := by
  rw [← point_head m c t hb hi]
  unfold outsAt0
  dsimp only
  exact out16_apply c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
        (iblk m c 7 t) (iblk m c 8 t) (iblk m c 9 t) (iblk m c 10 t) hi a b

/-- The kernel's scales of the new values. -/
theorem array16 : (dats m 0 c).arrAt 16 cfg0.N = (kernelArgs m c).vS := by
  refine (dats m 0 c).arrAt_eq_of_covers 16 _ (by decide +kernel) fun t hf y => ?_
  have hb : (grid0.coords t 0).val < 16 := (grid0.coords t 0).isLt
  have hi : (grid0.coords t 1).val < 2 := (grid0.coords t 1).isLt
  rw [after0_16]
  have key : ∀ z : S1x1x128x4.Idx, (outsAt0 m c t).2.2.2.2.2.1 z = (kernelArgs m c).vS (((cfg0.win 16).blk t).view.emb z) := by
    intro z
    have e : z = ix4 0 0 (z 2) (z 3) := by
      funext k
      fin_cases k
      · exact Fin.ext (Nat.lt_one_iff.mp (z 0).isLt)
      · exact Fin.ext (Nat.lt_one_iff.mp (z 1).isLt)
      · rfl
      · rfl
    rw [e]
    refine (point16 m c t hb hi (z 2) (z 3)).trans ?_
    have e2 : (((cfg0.win 16).blk t).view.emb (ix4 0 0 (z 2) (z 3)) : S16x2x128x4.Idx)
        = ix4 ⟨(grid0.coords t 0).val, hb⟩ ⟨(grid0.coords t 1).val, hi⟩ (z 2) (z 3) := by
      have hw : (win0 16).index t = ![(grid0.coords t 0).val, (grid0.coords t 1).val, 0, 0] := index16 t
      have w0 : (win0 16).index t 0 = (grid0.coords t 0).val := congrFun hw 0
      have w1 : (win0 16).index t 1 = (grid0.coords t 1).val := congrFun hw 1
      have w2 : (win0 16).index t 2 = 0 := congrFun hw 2
      have w3 : (win0 16).index t 3 = 0 := congrFun hw 3
      blk_ext
      · exact w0
      · exact w1
      · exact (congrArg (fun n => n * 128 + (z 2).val) w2).trans (by omega)
      · exact (congrArg (fun n => n * 4 + (z 3).val) w3).trans (by omega)
    exact (congrArg (kernelArgs m c).vS e2).symm
  exact key y

theorem point17 (t : Fin cfg0.N) (hb : (grid0.coords t 0).val < 16) (hi : (grid0.coords t 1).val < 2) (a : Fin 128) (b : Fin 4) :
    (outsAt0 m c t).2.2.2.2.2.2 (ix4 0 0 a b : S1x1x128x4.Idx)
      = ((kernelArgs m c).head ⟨(grid0.coords t 0).val, hb⟩ ⟨(grid0.coords t 1).val, hi⟩).vzero a b := by
  rw [← point_head m c t hb hi]
  unfold outsAt0
  dsimp only
  exact out17_apply c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
        (iblk m c 7 t) (iblk m c 8 t) (iblk m c 9 t) (iblk m c 10 t) hi a b

/-- The kernel's zero points of the new values. -/
theorem array17 : (dats m 0 c).arrAt 17 cfg0.N = (kernelArgs m c).vZ := by
  refine (dats m 0 c).arrAt_eq_of_covers 17 _ (by decide +kernel) fun t hf y => ?_
  have hb : (grid0.coords t 0).val < 16 := (grid0.coords t 0).isLt
  have hi : (grid0.coords t 1).val < 2 := (grid0.coords t 1).isLt
  rw [after0_17]
  have key : ∀ z : S1x1x128x4.Idx, (outsAt0 m c t).2.2.2.2.2.2 z = (kernelArgs m c).vZ (((cfg0.win 17).blk t).view.emb z) := by
    intro z
    have e : z = ix4 0 0 (z 2) (z 3) := by
      funext k
      fin_cases k
      · exact Fin.ext (Nat.lt_one_iff.mp (z 0).isLt)
      · exact Fin.ext (Nat.lt_one_iff.mp (z 1).isLt)
      · rfl
      · rfl
    rw [e]
    refine (point17 m c t hb hi (z 2) (z 3)).trans ?_
    have e2 : (((cfg0.win 17).blk t).view.emb (ix4 0 0 (z 2) (z 3)) : S16x2x128x4.Idx)
        = ix4 ⟨(grid0.coords t 0).val, hb⟩ ⟨(grid0.coords t 1).val, hi⟩ (z 2) (z 3) := by
      have hw : (win0 17).index t = ![(grid0.coords t 0).val, (grid0.coords t 1).val, 0, 0] := index17 t
      have w0 : (win0 17).index t 0 = (grid0.coords t 0).val := congrFun hw 0
      have w1 : (win0 17).index t 1 = (grid0.coords t 1).val := congrFun hw 1
      have w2 : (win0 17).index t 2 = 0 := congrFun hw 2
      have w3 : (win0 17).index t 3 = 0 := congrFun hw 3
      blk_ext
      · exact w0
      · exact w1
      · exact (congrArg (fun n => n * 128 + (z 2).val) w2).trans (by omega)
      · exact (congrArg (fun n => n * 4 + (z 3).val) w3).trans (by omega)
    exact (congrArg (kernelArgs m c).vZ e2).symm
  exact key y

theorem point11 (t : Fin cfg0.N) (hb : (grid0.coords t 0).val < 16) (hi : (grid0.coords t 1).val < 2) (s : Fin 128) (g : Fin 8) (k : Fin 128)
    (h : 128 * g.val + k.val < 1024) :
    (outsAt0 m c t).1 (ix3 0 s ⟨128 * g.val + k.val, h⟩ : S1x128x1024.Idx)
      = ((kernelArgs m c).head ⟨(grid0.coords t 0).val, hb⟩ ⟨(grid0.coords t 1).val, hi⟩).out g s k := by
  rw [← point_head m c t hb hi]
  unfold outsAt0
  dsimp only
  exact out11_apply c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
        (iblk m c 7 t) (iblk m c 8 t) (iblk m c 9 t) (iblk m c 10 t) hi s g k

/-- The kernel's attention. -/
theorem array11 : (dats m 0 c).arrAt 11 cfg0.N = (kernelArgs m c).y := by
  refine (dats m 0 c).arrAt_eq_of_covers 11 _ (by decide +kernel) fun t hf y => ?_
  have hb : (grid0.coords t 0).val < 16 := (grid0.coords t 0).isLt
  have hi : (grid0.coords t 1).val < 2 := (grid0.coords t 1).isLt
  rw [after0_11]
  have key : ∀ z : S1x128x1024.Idx, (outsAt0 m c t).1 z = (kernelArgs m c).y (((cfg0.win 11).blk t).view.emb z) := by
    intro z
    have hz : (z 2).val < 1024 := (z 2).isLt
    have e : z = ix3 0 (z 1) ⟨128 * ((z 2).val / 128) + (z 2).val % 128, by omega⟩ := by
      funext k
      fin_cases k
      · exact Fin.ext (Nat.lt_one_iff.mp (z 0).isLt)
      · rfl
      · exact Fin.ext (Nat.div_add_mod _ 128).symm
    have e2 : (((cfg0.win 11).blk t).view.emb z : S16x128x2048.Idx)
        = ix3 ⟨(grid0.coords t 0).val, hb⟩ (z 1) ⟨(grid0.coords t 1).val * 1024 + (z 2).val, by omega⟩ := by
      have hw : (win0 11).index t = ![(grid0.coords t 0).val, 0, (grid0.coords t 1).val] := index11 t
      have w0 : (win0 11).index t 0 = (grid0.coords t 0).val := congrFun hw 0
      have w1 : (win0 11).index t 1 = 0 := congrFun hw 1
      have w2 : (win0 11).index t 2 = (grid0.coords t 1).val := congrFun hw 2
      have z0 : (z 0).val = 0 := Nat.lt_one_iff.mp (z 0).isLt
      blk_ext
      · exact w0
      · exact (congrArg (fun n => n * 128 + (z 1).val) w1).trans (by omega)
      · exact congrArg (fun n => n * 1024 + (z 2).val) w2
    refine Eq.trans ?_ (congrArg (kernelArgs m c).y e2).symm
    refine (congrArg (outsAt0 m c t).1 e).trans ((point11 m c t hb hi (z 1) ⟨(z 2).val / 128, by omega⟩ ⟨(z 2).val % 128, by omega⟩ _).trans ?_)
    show _ = ((kernelArgs m c).head ⟨(grid0.coords t 0).val, hb⟩ ⟨((grid0.coords t 1).val * 1024 + (z 2).val) / 1024, _⟩).out
      ⟨((grid0.coords t 1).val * 1024 + (z 2).val) % 1024 / 128, _⟩ (z 1) ⟨((grid0.coords t 1).val * 1024 + (z 2).val) % 128, _⟩
    have q1 : ((grid0.coords t 1).val * 1024 + (z 2).val) / 1024 = (grid0.coords t 1).val := by omega
    have q2 : ((grid0.coords t 1).val * 1024 + (z 2).val) % 1024 / 128 = (z 2).val / 128 := by omega
    have q3 : ((grid0.coords t 1).val * 1024 + (z 2).val) % 128 = (z 2).val % 128 := by omega
    simp only [q1, q2, q3]
  exact key y

end Cert.Proof
-- ==== Proof.RefBase.lean ====
/- Constants and indices of the reference. -/
module

public import proofs.«01_k».proof.Proof.Data
public import proofs.«01_k».proof.Proof.Arith
public import proofs.«01_k».proof.Proof.Gen.ReferenceIdeal.Read

@[expose] public section

noncomputable section

namespace Cert.Proof

open Idealize.ShloMosaic Idealize.ShloMosaic.TcCoe Idealize.ShloMosaic.Pointwise Cert.ReferenceIdeal Cert.ReferenceIdeal.Gen Cert.ReferenceIdeal.Read

variable [Cert.ReferenceIdeal.Facts] (a : Args) (b : Fin 16) (hh : Fin 2)

theorem token_index (t : Fin 128) : (⟨t.val / 32 * 32 + t.val % 32, by omega⟩ : Fin 128) = t := Fin.ext (by simp; omega)

theorem ofBits_1 : Ideal.ofBits .f32 0x3F800000#32 = 1 := by
  simp [Ideal.ofBits, Ideal.ieee, -EReal.coe_mul]; norm_num

theorem ofBits_0 : Ideal.ofBits .f32 0x00000000#32 = 0 := by
  simp [Ideal.ofBits, Ideal.ieee]

end Cert.Proof
-- ==== Proof.RefValues.lean ====
/- The reference's quantiser on the new values: scales, zero points, codes, packed bytes and what the codes read back as. -/
module

public import proofs.«01_k».proof.Proof.RefBase

@[expose] public section

noncomputable section

namespace Cert.Proof

open Idealize.ShloMosaic Idealize.ShloMosaic.TcCoe Idealize.ShloMosaic.Pointwise Cert.ReferenceIdeal Cert.ReferenceIdeal.Gen Cert.ReferenceIdeal.Read

variable [Cert.ReferenceIdeal.Facts] (a : Args) (b : Fin 16) (hh : Fin 2)

section Values

theorem ref38_apply (t : Fin 128) (g : Fin 4) : val_main_v38 (F := Ideal) a.vNew (ix4 b hh t g) = (a.head b hh).vzero t g := by
  pointwise [val_main_v38, val_main_v37, val_main_v1, val_main_cst_6]
  rfl

theorem ref40_apply (t : Fin 128) (g : Fin 4) : val_main_v40 (F := Ideal) a.vNew (ix4 b hh t g) = qmax ((a.head b hh).vgrp t g) := by
  pointwise [val_main_v40, val_main_v37, val_main_v1, val_main_cst_7]
  rfl

theorem ref49_apply (t : Fin 128) (g : Fin 4) (z : Fin 1) : val_main_v49 (F := Ideal) a.vNew (ix5 b hh t g z) = (a.head b hh).vzero t g := by
  pointwise [val_main_v49, val_main_v39]
  exact ref38_apply a b hh t g

theorem ref48_apply (t : Fin 128) (g : Fin 4) (z : Fin 1) : val_main_v48 (F := Ideal) a.vNew (ix5 b hh t g z) = (a.head b hh).vscale t g := by
  rw [val_main_v48_apply, val_main_v47_apply, val_main_v46_apply, val_main_v44_apply, val_main_v42_apply]
  pointwise [val_main_v45, val_main_v43, val_main_v41, val_main_v39, val_main_cst_8_apply, val_main_cst_9_apply, val_main_cst_10_apply, val_main_call3_v1, val_main_call3_v0_apply]
  simp only [ref38_apply, ref40_apply]
  rfl

theorem ref57_apply (t c : Fin 128) : val_main_v57 (F := Ideal) a.vNew (ix5 b hh t ⟨c.val / 32, by omega⟩ ⟨c.val % 32, by omega⟩) = (a.head b hh).vcode t c := by
  rw [val_main_v57_apply, val_main_call5_v2_apply, val_main_v56_apply, val_main_v55_apply, val_main_v52_apply]
  pointwise [val_main_v54, val_main_v51, val_main_v37, val_main_v1, val_main_cst_11_apply, val_main_cst_12_apply, val_main_call5_v4, val_main_call5_v3_apply, val_main_call5_v1, val_main_call5_v0_apply, val_main_v53, val_main_v50]
  simp only [ref49_apply, ref48_apply, token_index]
  rfl

theorem ref63_apply (t c : Fin 128) : val_main_v63 (F := Ideal) a.vNew (ix4 b hh t c) = (a.head b hh).valNew t c := by
  pointwise [val_main_v63]
  rw [val_main_v62_apply, val_main_v60_apply]
  pointwise [val_main_v61, val_main_v59, val_main_v58]
  simp only [ref49_apply, ref48_apply, ref57_apply]
  rfl

theorem ref71_apply (t : Fin 128) (j : Fin 64) : val_main_v71 (F := Ideal) a.vNew (ix4 b hh t j) = (a.head b hh).vbyte t j := by
  pointwise [val_main_v71, val_main_v70, val_main_v69, val_main_v68, val_main_v67, val_main_v66, val_main_c_13, val_main_v65, val_main_v64]
  have key : ∀ (n : ℕ) (hn : n < 128) (h1 : n / 32 < 4) (h2 : n % 32 < 32),
      val_main_v57 (F := Ideal) a.vNew (ix5 b hh t ⟨n / 32, h1⟩ ⟨n % 32, h2⟩) = (a.head b hh).vcode t ⟨n, hn⟩ := fun n hn h1 h2 => ref57_apply a b hh t ⟨n, hn⟩
  rw [key _ (show 2 * j.val < 128 by omega), key _ (show 1 + 2 * j.val < 128 by omega)]
  have e : (⟨1 + 2 * j.val, by omega⟩ : Fin 128) = ⟨2 * j.val + 1, by omega⟩ := Fin.ext (Nat.add_comm _ _)
  rw [e]
  rfl

end Values

theorem reference_vBytes : val_main_v71 (F := Ideal) a.vNew = a.vBytes := by
  funext i
  rw [eq_ix4 i]
  exact ref71_apply a _ _ _ _

theorem reference_vS : val_main_v145 (F := Ideal) a.vNew = a.vS := by
  funext i
  rw [eq_ix4 i]
  pointwise [val_main_v145]
  exact ref48_apply a _ _ _ _ _

theorem reference_vZ : val_main_v146 (F := Ideal) a.vNew = a.vZ := by
  funext i
  rw [eq_ix4 i]
  pointwise [val_main_v146]
  exact ref49_apply a _ _ _ _ _

end Cert.Proof
-- ==== Proof.RefKeys.lean ====
/- The reference's quantiser on the new keys: scales, zero points, codes, packed bytes and what the codes read back as. -/
module

public import proofs.«01_k».proof.Proof.RefBase

@[expose] public section

noncomputable section

namespace Cert.Proof

open Idealize.ShloMosaic Idealize.ShloMosaic.TcCoe Idealize.ShloMosaic.Pointwise Cert.ReferenceIdeal Cert.ReferenceIdeal.Gen Cert.ReferenceIdeal.Read

variable [Cert.ReferenceIdeal.Facts] (a : Args) (b : Fin 16) (hh : Fin 2)

section Keys

theorem ref3_apply (g : Fin 4) (c : Fin 128) : val_main_v3 (F := Ideal) a.kNew (ix4 b hh g c) = (a.head b hh).kzero g c := by
  pointwise [val_main_v3, val_main_v2, val_main_v0, val_main_cst]
  rfl

theorem ref5_apply (g : Fin 4) (c : Fin 128) : val_main_v5 (F := Ideal) a.kNew (ix4 b hh g c) = qmax ((a.head b hh).kgrp g c) := by
  pointwise [val_main_v5, val_main_v2, val_main_v0, val_main_cst_0]
  rfl

theorem ref14_apply (g : Fin 4) (c : Fin 128) (z : Fin 1) : val_main_v14 (F := Ideal) a.kNew (ix5 b hh g z c) = (a.head b hh).kzero g c := by
  pointwise [val_main_v14, val_main_v4]
  exact ref3_apply a b hh g c

theorem ref13_apply (g : Fin 4) (c : Fin 128) (z : Fin 1) : val_main_v13 (F := Ideal) a.kNew (ix5 b hh g z c) = (a.head b hh).kscale g c := by
  rw [val_main_v13_apply, val_main_v12_apply, val_main_v11_apply, val_main_v9_apply, val_main_v7_apply]
  pointwise [val_main_v10, val_main_v8, val_main_v6, val_main_v4, val_main_cst_1_apply, val_main_cst_2_apply, val_main_cst_3_apply, val_main_call0_v1, val_main_call0_v0_apply]
  simp only [ref3_apply, ref5_apply]
  rfl

theorem ref22_apply (t c : Fin 128) : val_main_v22 (F := Ideal) a.kNew (ix5 b hh ⟨t.val / 32, by omega⟩ ⟨t.val % 32, by omega⟩ c) = (a.head b hh).kcode t c := by
  rw [val_main_v22_apply, val_main_call2_v2_apply, val_main_v21_apply, val_main_v20_apply, val_main_v17_apply]
  pointwise [val_main_v19, val_main_v16, val_main_v2, val_main_v0, val_main_cst_4_apply, val_main_cst_5_apply, val_main_call2_v4, val_main_call2_v3_apply, val_main_call2_v1, val_main_call2_v0_apply, val_main_v18, val_main_v15]
  simp only [ref14_apply, ref13_apply, token_index]
  rfl

theorem ref28_apply (t c : Fin 128) : val_main_v28 (F := Ideal) a.kNew (ix4 b hh t c) = (a.head b hh).keyNew t c := by
  pointwise [val_main_v28]
  rw [val_main_v27_apply, val_main_v25_apply]
  pointwise [val_main_v26, val_main_v24, val_main_v23]
  simp only [ref14_apply, ref13_apply, ref22_apply]
  rfl

theorem ref36_apply (t : Fin 128) (j : Fin 64) : val_main_v36 (F := Ideal) a.kNew (ix4 b hh t j) = (a.head b hh).kbyte t j := by
  pointwise [val_main_v36, val_main_v35, val_main_v34, val_main_v33, val_main_v32, val_main_v31, val_main_c, val_main_v30, val_main_v29]
  simp only [ref22_apply, Nat.add_comm 1]
  rfl

end Keys

theorem reference_kBytes : val_main_v36 (F := Ideal) a.kNew = a.kBytes := by
  funext i
  rw [eq_ix4 i]
  exact ref36_apply a _ _ _ _

theorem reference_kS : val_main_v143 (F := Ideal) a.kNew = a.kS := by
  funext i
  rw [eq_ix4 i]
  pointwise [val_main_v143]
  exact ref13_apply a _ _ _ _ _

theorem reference_kZ : val_main_v144 (F := Ideal) a.kNew = a.kZ := by
  funext i
  rw [eq_ix4 i]
  pointwise [val_main_v144]
  exact ref14_apply a _ _ _ _ _

end Cert.Proof
-- ==== Proof.RefRows.lean ====
/- The reference's keys and values: the cache unpacked and dequantised, the tail, the new tokens read back. -/
module

public import proofs.«01_k».proof.Proof.RefKeys
public import proofs.«01_k».proof.Proof.RefValues

@[expose] public section

noncomputable section

namespace Cert.Proof

open Idealize.ShloMosaic Idealize.ShloMosaic.TcCoe Idealize.ShloMosaic.Pointwise Cert.ReferenceIdeal Cert.ReferenceIdeal.Gen Cert.ReferenceIdeal.Read

variable [Cert.ReferenceIdeal.Facts] (a : Args) (b : Fin 16) (hh : Fin 2)

theorem low_half : ∀ w : BitVec 8, (IntOp.andi (w.setWidth 32) 15#32).toInt = (w.toNat % 16 : ℕ) := by decide +kernel
theorem high_half : ∀ w : BitVec 8, (IntOp.shrsi .host (w.setWidth 32) 4#32).toInt = (w.toNat / 16 : ℕ) := by decide +kernel

/-- The code of a channel in its byte. -/
theorem nib_eq (w : BitVec 8) (c : ℕ) :
    (FloatOps.sitofp .f32 (if h : c % 2 < 1 then IntOp.andi (w.setWidth 32) 15#32 else IntOp.shrsi .host (w.setWidth 32) 4#32) : Ideal .f32) = nib w c := by
  show (((if h : c % 2 < 1 then IntOp.andi (w.setWidth 32) 15#32 else IntOp.shrsi .host (w.setWidth 32) 4#32 : BitVec 32).toInt : ℝ) : EReal) = _
  unfold nib
  by_cases h : c % 2 = 0
  · rw [dif_pos (by omega), if_pos h, low_half, Int.cast_natCast]
  · rw [dif_neg (by omega), if_neg h, high_half, Int.cast_natCast]

theorem ref80_apply (t : Fin 8064) (c : Fin 128) :
    (FloatOps.sitofp .f32 (val_main_v80 (F := Ideal) a.kCodes (ix4 b hh t c)) : Ideal .f32) = nib (a.kCodes (ix4 b hh t ⟨c.val / 2, by omega⟩)) c.val := by
  refine Eq.trans (congrArg (FloatOps.sitofp (F := Ideal) .f32) ?_) (nib_eq _ _)
  pointwise [val_main_v80, val_main_v79, val_main_v78, val_main_v77, val_main_v76, val_main_v75, val_main_v74, val_main_v73, val_main_v72, val_main_c_14, val_main_c_15]

theorem ref98_apply (t : Fin 8064) (c : Fin 128) :
    (FloatOps.sitofp .f32 (val_main_v98 (F := Ideal) a.vCodes (ix4 b hh t c)) : Ideal .f32) = nib (a.vCodes (ix4 b hh t ⟨c.val / 2, by omega⟩)) c.val := by
  refine Eq.trans (congrArg (FloatOps.sitofp (F := Ideal) .f32) ?_) (nib_eq _ _)
  pointwise [val_main_v98, val_main_v97, val_main_v96, val_main_v95, val_main_v94, val_main_v93, val_main_v92, val_main_v91, val_main_v90, val_main_c_16, val_main_c_17]

theorem ref108_apply (t : Fin 8064) (c : Fin 128) : val_main_v108 (F := Ideal) a.kCodes a.kScales a.kZeros (ix4 b hh t c) = (a.head b hh).keyCache t c := by
  pointwise [val_main_v108]
  rw [val_main_v89_apply, val_main_v86_apply]
  pointwise [val_main_v88, val_main_v87, val_main_v85, val_main_v84, val_main_v83, val_main_v82, val_main_v81]
  rw [ref80_apply]
  rfl

theorem ref110_apply (t : Fin 8064) (c : Fin 128) : val_main_v110 (F := Ideal) a.vCodes a.vScales a.vZeros (ix4 b hh t c) = (a.head b hh).valCache t c := by
  pointwise [val_main_v110]
  rw [val_main_v107_apply, val_main_v104_apply]
  pointwise [val_main_v106, val_main_v105, val_main_v103, val_main_v102, val_main_v101, val_main_v100, val_main_v99]
  rw [ref98_apply]
  rfl

/-- The keys. -/
theorem ref109_apply (t : Fin 8320) (c : Fin 128) :
    val_main_v109 (F := Ideal) a.kNew a.kCodes a.kScales a.kZeros a.kTail (ix4 b hh t c) = (a.head b hh).key t c := by
  pointwise [val_main_v109]
  simp only [ref108_apply, ref28_apply]
  unfold Head.key
  by_cases h1 : t.val < 8064
  · rw [dif_pos h1, dif_pos h1]
  · rw [dif_neg h1, dif_neg h1]
    by_cases h2 : t.val < 8192
    · rw [dif_pos (by omega), dif_pos h2]
      rfl
    · rw [dif_neg (by omega), dif_neg h2]
      exact congrArg (fun u => (a.head b hh).keyNew u c) (Fin.ext (by dsimp only; omega))

/-- The values. -/
theorem ref111_apply (t : Fin 8320) (c : Fin 128) :
    val_main_v111 (F := Ideal) a.vNew a.vCodes a.vScales a.vZeros a.vTail (ix4 b hh t c) = (a.head b hh).val t c := by
  pointwise [val_main_v111]
  simp only [ref110_apply, ref63_apply]
  unfold Head.val
  by_cases h1 : t.val < 8064
  · rw [dif_pos h1, dif_pos h1]
  · rw [dif_neg h1, dif_neg h1]
    by_cases h2 : t.val < 8192
    · rw [dif_pos (by omega), dif_pos h2]
      rfl
    · rw [dif_neg (by omega), dif_neg h2]
      exact congrArg (fun u => (a.head b hh).valNew u c) (Fin.ext (by dsimp only; omega))

end Cert.Proof
-- ==== Proof.RefOut.lean ====
/- The reference's scores, weights and attention. -/
module

public import proofs.«01_k».proof.Proof.RefRows

@[expose] public section

noncomputable section

namespace Cert.Proof

open Idealize.ShloMosaic Idealize.ShloMosaic.TcCoe Idealize.ShloMosaic.Pointwise Cert.ReferenceIdeal Cert.ReferenceIdeal.Gen Cert.ReferenceIdeal.Read

variable [Cert.ReferenceIdeal.Facts] (a : Args) (b : Fin 16) (hh : Fin 2)

theorem ofBits_two : Ideal.ofBits .f32 0x40000000#32 = ((2 : ℝ) : EReal) := ofBits_2

theorem position_toInt (t : ℕ) (h : t < 8320) : (IntOp.subi (BitVec.ofNat 32 t) 8192#32).toInt = (t : ℤ) - 8192 := by
  show (BitVec.ofNat 32 t - 8192#32).toInt = _
  rw [BitVec.toInt_sub, BitVec.toInt_ofNat', show (8192#32).toInt = 8192 from by decide]
  simp only [Int.bmod]
  norm_num
  omega

theorem query_toInt (s : ℕ) (h : s < 128) : (BitVec.ofNat 32 s).toInt = (s : ℤ) := by
  rw [BitVec.toInt_ofNat']
  simp only [Int.bmod]
  norm_num
  omega

/-- Which keys a query sees. -/
theorem select_mask {α : Type} (s : Fin 128) (t : Fin 8320) (x y : α) :
    Scalar.select (val_main_v124 (F := Ideal) (ix2 s t)) x y = if t.val ≤ 8192 + s.val then x else y := by
  have e : val_main_v124 (F := Ideal) (ix2 s t) = IntOp.cmpi .sle (IntOp.subi (BitVec.ofNat 32 t.val) 8192#32) (BitVec.ofNat 32 s.val) := by
    pointwise [val_main_v124, val_main_v123, val_main_v122, val_main_v121, val_main_v120, val_main_v119, val_main_v118, val_main_v117, val_main_v116, val_main_c_18]
  rw [e]
  have h1 := position_toInt t.val t.isLt
  have h2 := query_toInt s.val s.isLt
  by_cases h : t.val ≤ 8192 + s.val
  · rw [if_pos h]
    have : (IntOp.subi (BitVec.ofNat 32 t.val) 8192#32).sle (BitVec.ofNat 32 s.val) = true := by
      rw [BitVec.sle_iff_toInt_le, h1, h2]; omega
    simp [Scalar.select, IntOp.cmpi, this]
  · rw [if_neg h]
    have : (IntOp.subi (BitVec.ofNat 32 t.val) 8192#32).sle (BitVec.ofNat 32 s.val) = false := by
      rw [← Bool.not_eq_true, BitVec.sle_iff_toInt_le, h1, h2]; omega
    simp [Scalar.select, IntOp.cmpi, this]

theorem ref115_apply (g : Fin 8) (s : Fin 128) (t : Fin 8320) :
    val_main_v115 (F := Ideal) a.x a.kNew a.kCodes a.kScales a.kZeros a.kTail (ix5 b hh g s t) = (a.head b hh).dot g s ((a.head b hh).key t) := by
  pointwise [val_main_v115, val_main_v114, val_main_v113, val_main_v112]
  simp only [ref109_apply]
  unfold Head.dot
  refine Finset.sum_congr rfl fun c _ => congrArg (· * _) ?_
  exact congrArg (fun u => a.x (ix3 b s u)) (Fin.ext (by dsimp only; omega))

theorem ref125_apply (g : Fin 8) (s : Fin 128) (t : Fin 8320) :
    val_main_v125 (F := Ideal) a.x a.kNew a.kCodes a.kScales a.kZeros a.kTail (ix5 b hh g s t)
      = if t.val ≤ 8192 + s.val then (a.head b hh).dot g s ((a.head b hh).key t) else Head.negInf := by
  rw [val_main_v125_apply]
  pointwise [val_main_call6_v0, val_main_call6_v1, val_main_call6_v2, val_main_cst_19]
  rw [select_mask, ref115_apply]
  rfl

theorem ref126_apply (g : Fin 8) (s : Fin 128) :
    val_main_v126 (F := Ideal) a.x a.kNew a.kCodes a.kScales a.kZeros a.kTail (ix4 b hh g s) = (a.head b hh).top g s := by
  pointwise [val_main_v126, val_main_cst_20]
  rw [fold_max_eq]
  simp only [ref125_apply]
  rfl

theorem ref134_apply (g : Fin 8) (s : Fin 128) (t : Fin 8320) :
    val_main_v134 (F := Ideal) a.x a.kNew a.kCodes a.kScales a.kZeros a.kTail (ix5 b hh g s t) = (a.head b hh).prob g s t := by
  rw [val_main_v134_apply, val_main_v133_apply, val_main_v131_apply, val_main_v129_apply]
  pointwise [val_main_call7_v0, val_main_call7_v1, val_main_call7_v2, val_main_cst_23, val_main_v132, val_main_cst_22, val_main_v130, val_main_cst_21, val_main_v128, val_main_v127]
  have zero : (id (constant (F := Ideal) S_ .f32 0x00000000#32) ix0 : EReal) = 0 := ofBits_0
  rw [select_mask, ref115_apply, ref126_apply, ofBits_two, pow_two, zero]
  rfl

theorem ref140_apply (g : Fin 8) (s k : Fin 128) :
    val_main_v140 (F := Ideal) a.x a.kNew a.vNew a.kCodes a.kScales a.kZeros a.vCodes a.vScales a.vZeros a.kTail a.vTail (ix5 b hh g s k) = (a.head b hh).out g s k := by
  rw [val_main_v140_apply]
  pointwise [val_main_v139, val_main_v138, val_main_v137, val_main_cst_24, val_main_v136, val_main_v135]
  simp only [ref134_apply, ref111_apply]
  rfl

/-- The reference's attention. -/
theorem reference_y : val_main_v142 (F := Ideal) a.x a.kNew a.vNew a.kCodes a.kScales a.kZeros a.vCodes a.vScales a.vZeros a.kTail a.vTail = a.y := by
  funext i
  rw [eq_ix3 i]
  pointwise [val_main_v142, val_main_v141]
  refine (ref140_apply a _ _ _ _ _).trans ?_
  exact congrArg (fun g => (a.head (i 0) ⟨(i 2).val / 1024, _⟩).out g (i 1) ⟨(i 2).val % 128, _⟩) (Fin.ext (by dsimp only; omega))

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Arrays
public import proofs.«01_k».proof.Proof.RefValues
public import proofs.«01_k».proof.Proof.RefOut
public import Idealize.ShloMosaic.Adequacy
public import Idealize.ShloMosaic.Init

@[expose] public section

noncomputable section

namespace Cert.Proof

open Idealize.ShloMosaic Idealize.ShloMosaic.TcCoe Idealize.SL.Sem

/-- The arguments in the reference's memory. -/
def referenceArgs (m : (ℓ : Loc Cert.ReferenceIdeal.nD Cert.ReferenceIdeal.τ Cert.ReferenceIdeal.sig) → Buf (Elt Ideal) ℓ)
    (c : Dev Cert.ReferenceIdeal.nD) : Args where
  x := m ((c : Thread Cert.ReferenceIdeal.nD Cert.ReferenceIdeal.τ).loc Cert.ReferenceIdeal.main_arg0)
  kNew := m ((c : Thread Cert.ReferenceIdeal.nD Cert.ReferenceIdeal.τ).loc Cert.ReferenceIdeal.main_arg1)
  vNew := m ((c : Thread Cert.ReferenceIdeal.nD Cert.ReferenceIdeal.τ).loc Cert.ReferenceIdeal.main_arg2)
  kCodes := m ((c : Thread Cert.ReferenceIdeal.nD Cert.ReferenceIdeal.τ).loc Cert.ReferenceIdeal.main_arg3)
  kScales := m ((c : Thread Cert.ReferenceIdeal.nD Cert.ReferenceIdeal.τ).loc Cert.ReferenceIdeal.main_arg4)
  kZeros := m ((c : Thread Cert.ReferenceIdeal.nD Cert.ReferenceIdeal.τ).loc Cert.ReferenceIdeal.main_arg5)
  vCodes := m ((c : Thread Cert.ReferenceIdeal.nD Cert.ReferenceIdeal.τ).loc Cert.ReferenceIdeal.main_arg6)
  vScales := m ((c : Thread Cert.ReferenceIdeal.nD Cert.ReferenceIdeal.τ).loc Cert.ReferenceIdeal.main_arg7)
  vZeros := m ((c : Thread Cert.ReferenceIdeal.nD Cert.ReferenceIdeal.τ).loc Cert.ReferenceIdeal.main_arg8)
  kTail := m ((c : Thread Cert.ReferenceIdeal.nD Cert.ReferenceIdeal.τ).loc Cert.ReferenceIdeal.main_arg9)
  vTail := m ((c : Thread Cert.ReferenceIdeal.nD Cert.ReferenceIdeal.τ).loc Cert.ReferenceIdeal.main_arg10)

/-- Two sets of arguments with equal arrays are equal. -/
theorem Args.ext' {a b : Args} (h0 : a.x = b.x) (h1 : a.kNew = b.kNew) (h2 : a.vNew = b.vNew) (h3 : a.kCodes = b.kCodes)
    (h4 : a.kScales = b.kScales) (h5 : a.kZeros = b.kZeros) (h6 : a.vCodes = b.vCodes) (h7 : a.vScales = b.vScales)
    (h8 : a.vZeros = b.vZeros) (h9 : a.kTail = b.kTail) (h10 : a.vTail = b.vTail) : a = b := by
  cases a; cases b; cases h0; cases h1; cases h2; cases h3; cases h4; cases h5; cases h6; cases h7; cases h8; cases h9; cases h10; rfl

/-- From equal arguments the kernel and the reference end with the same seven arrays. -/
theorem algebraic [Cert.KernelIdeal.Facts] [Cert.ReferenceIdeal.Facts] : Cert.algebraic_KernelIdeal_ReferenceIdeal := by
  intro m g m' g' _ hargs
  have same : ∀ c, referenceArgs m' c = kernelArgs m c := fun c => by
    obtain ⟨h0, h1, h2, h3, h4, h5, h6, h7, h8, h9, h10⟩ := hargs c
    exact Args.ext' h0 h1 h2 h3 h4 h5 h6 h7 h8 h9 h10
  refine ⟨fun c => (kernelArgs m c).y, fun c => (kernelArgs m c).kBytes, fun c => (kernelArgs m c).kS, fun c => (kernelArgs m c).kZ,
    fun c => (kernelArgs m c).vBytes, fun c => (kernelArgs m c).vS, fun c => (kernelArgs m c).vZ, ?_, ?_⟩
  · refine (θ_run _ _ _).mono (fun r h c => ?_) (Cert.KernelIdeal.Value.run_blocks m g)
    obtain ⟨h0, h1, h2, h3, h4, h5, h6, hk⟩ := h c
    exact ⟨h0.trans (array11 m c), h1.trans (array12 m c), h2.trans (array13 m c), h3.trans (array14 m c),
      h4.trans (array15 m c), h5.trans (array16 m c), h6.trans (array17 m c), hk⟩
  · refine (θ_run _ _ _).mono (fun r h c => ?_) (Cert.ReferenceIdeal.Value.run m' g')
    obtain ⟨h0, h1, h2, h3, h4, h5, h6, hk⟩ := h c
    refine ⟨?_, ?_, ?_, ?_, ?_, ?_, ?_, hk⟩
    · exact (h0.trans (Cert.ReferenceIdeal.Read.val_main_v142_eq _)).trans ((reference_y (referenceArgs m' c)).trans (congrArg Args.y (same c)))
    · exact (h1.trans (Cert.ReferenceIdeal.Read.val_main_v36_eq _)).trans ((reference_kBytes (referenceArgs m' c)).trans (congrArg Args.kBytes (same c)))
    · exact (h2.trans (Cert.ReferenceIdeal.Read.val_main_v143_eq _)).trans ((reference_kS (referenceArgs m' c)).trans (congrArg Args.kS (same c)))
    · exact (h3.trans (Cert.ReferenceIdeal.Read.val_main_v144_eq _)).trans ((reference_kZ (referenceArgs m' c)).trans (congrArg Args.kZ (same c)))
    · exact (h4.trans (Cert.ReferenceIdeal.Read.val_main_v71_eq _)).trans ((reference_vBytes (referenceArgs m' c)).trans (congrArg Args.vBytes (same c)))
    · exact (h5.trans (Cert.ReferenceIdeal.Read.val_main_v145_eq _)).trans ((reference_vS (referenceArgs m' c)).trans (congrArg Args.vS (same c)))
    · exact (h6.trans (Cert.ReferenceIdeal.Read.val_main_v146_eq _)).trans ((reference_vZ (referenceArgs m' c)).trans (congrArg Args.vZ (same c)))

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, fun m ρ _ => ?_, trivial,
    @algebraic Cert.KernelIdeal.Gen.facts Cert.ReferenceIdeal.Gen.facts⟩
  refine (θ_run _ _ _).mono (fun r h => ⟨fun c => ?_, Idealize.ShloMosaic.sem_eq_zero_of_no_sems (by decide) r.2⟩) (Cert.ReferenceIdeal.Value.run m ρ)
  exact (h c).2.2.2.2.2.2.2⟩

end Cert.Proof

end
